-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_vocab [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_vocab [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_vocab m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_in_vocab [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_vocab m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel)
    ∧ quiescent_KernelIdeal (hKernelIdeal := hKernelIdeal)
    ∧ quiescent_KernelIdeal_pre_in_vocab (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal_pre_in_vocab (hKernelIdeal := hKernelIdeal) (hReferenceIdeal := hReferenceIdeal) (hPre_in_vocab := hPre_in_vocab)
-- ==== Pre_in_vocab.lean ====
abbrev S256x64 : Shape := ⟨2, ![256, 64]⟩
abbrev S256x512 : Shape := ⟨2, ![256, 512]⟩
abbrev S3072x512 : Shape := ⟨2, ![3072, 512]⟩
abbrev S3072x1024 : Shape := ⟨2, ![3072, 1024]⟩
abbrev S3072 : Shape := ⟨1, ![3072]⟩
abbrev S256x1024 : Shape := ⟨2, ![256, 1024]⟩
abbrev S256 : Shape := ⟨1, ![256]⟩
abbrev S_ : Shape := ⟨0, ![]⟩

class Facts : Prop where
  bcast_S_S256x64 : S_.BroadcastsInDim S256x64 (![] : Fin 0 → Fin S256x64.rank)

variable [Facts]

def fn {F : FTy → Type} [FloatOps F] (main_arg0 : IVec S256x64 32) (main_arg1 : FVec F S256x512 .f32) (main_arg2 : FVec F S3072x512 .f32) (main_arg3 : FVec F S3072x1024 .f32) (main_arg4 : FVec F S3072 .f32) (main_arg5 : FVec F S3072 .f32) (main_arg6 : FVec F S256x1024 .f32) (main_arg7 : FVec F S256 .f32) : IVec S256x64 1 :=
  let main_c : IVec S_ 32 := constantI S_ 32 0#32
  let main_v0 : IVec S256x64 32 := broadcastInDim S256x64 ![] bcast_S_S256x64 main_c
  let main_v1 : IVec S256x64 1 := cmpi .sge main_arg0 main_v0
  let main_c_0 : IVec S_ 32 := constantI S_ 32 256#32
  let main_v2 : IVec S256x64 32 := broadcastInDim S256x64 ![] bcast_S_S256x64 main_c_0
  let main_v3 : IVec S256x64 1 := cmpi .slt main_arg0 main_v2
  let main_v4 : IVec S256x64 1 := andi main_v1 main_v3
  main_v4
-- ==== Kernel.lean ====
abbrev S256x64 : Shape := ⟨2, ![256, 64]⟩
abbrev S256x512 : Shape := ⟨2, ![256, 512]⟩
abbrev S3072x512 : Shape := ⟨2, ![3072, 512]⟩
abbrev S3072x1024 : Shape := ⟨2, ![3072, 1024]⟩
abbrev S3072 : Shape := ⟨1, ![3072]⟩
abbrev S256x1024 : Shape := ⟨2, ![256, 1024]⟩
abbrev S256 : Shape := ⟨1, ![256]⟩
abbrev S64x256 : Shape := ⟨2, ![64, 256]⟩
abbrev S2048 : Shape := ⟨1, ![2048]⟩
abbrev S1024 : Shape := ⟨1, ![1024]⟩
abbrev S_ : Shape := ⟨0, ![]⟩
abbrev S1x3072 : Shape := ⟨2, ![1, 3072]⟩
abbrev S1x1024 : Shape := ⟨2, ![1, 1024]⟩
abbrev S1x256 : Shape := ⟨2, ![1, 256]⟩
abbrev S256x64x256 : Shape := ⟨3, ![256, 64, 256]⟩
abbrev S256x8x256 : Shape := ⟨3, ![256, 8, 256]⟩
abbrev S256x3072 : Shape := ⟨2, ![256, 3072]⟩
abbrev S1024x3072 : Shape := ⟨2, ![1024, 3072]⟩
abbrev S1024x256 : Shape := ⟨2, ![1024, 256]⟩
abbrev S256x1 : Shape := ⟨2, ![256, 1]⟩
abbrev S256x256 : Shape := ⟨2, ![256, 256]⟩
abbrev S2048x1024 : Shape := ⟨2, ![2048, 1024]⟩
abbrev S2048x256 : Shape := ⟨2, ![2048, 256]⟩
abbrev S8x256x256 : Shape := ⟨3, ![8, 256, 256]⟩

abbrev nBuf : Space → Nat
  | .hbm => 20
  | .vmem => 14
  | .smem => 0
  | _ => 0

abbrev bufTy : (tb : Table) → Fin (tcTables nBuf tb) → BufTy
  | .hbm, ⟨0, _⟩ => ⟨S256x64, .i32⟩
  | .hbm, ⟨1, _⟩ => ⟨S256x512, .f32⟩
  | .hbm, ⟨2, _⟩ => ⟨S3072x512, .f32⟩
  | .hbm, ⟨3, _⟩ => ⟨S3072x1024, .f32⟩
  | .hbm, ⟨4, _⟩ => ⟨S3072, .f32⟩
  | .hbm, ⟨5, _⟩ => ⟨S3072, .f32⟩
  | .hbm, ⟨6, _⟩ => ⟨S256x1024, .f32⟩
  | .hbm, ⟨7, _⟩ => ⟨S256, .f32⟩
  | .hbm, ⟨8, _⟩ => ⟨S64x256, .i32⟩
  | .hbm, ⟨9, _⟩ => ⟨S2048, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S3072, .f32⟩
  | .hbm, ⟨14, _⟩ => ⟨S3072, .f32⟩
  | .hbm, ⟨15, _⟩ => ⟨S1x3072, .f32⟩
  | .hbm, ⟨16, _⟩ => ⟨S1024, .f32⟩
  | .hbm, ⟨17, _⟩ => ⟨S1x1024, .f32⟩
  | .hbm, ⟨18, _⟩ => ⟨S1x256, .f32⟩
  | .hbm, ⟨19, _⟩ => ⟨S256x64x256, .f32⟩
  | .local _ .vmem, ⟨0, _⟩ => ⟨S64x256, .i32⟩
  | .local _ .vmem, ⟨1, _⟩ => ⟨S256x512, .f32⟩
  | .local _ .vmem, ⟨2, _⟩ => ⟨S3072x512, .f32⟩
  | .local _ .vmem, ⟨3, _⟩ => ⟨S3072x1024, .f32⟩
  | .local _ .vmem, ⟨4, _⟩ => ⟨S1x3072, .f32⟩
  | .local _ .vmem, ⟨5, _⟩ => ⟨S1x1024, .f32⟩
  | .local _ .vmem, ⟨6, _⟩ => ⟨S256x1024, .f32⟩
  | .local _ .vmem, ⟨7, _⟩ => ⟨S1x256, .f32⟩
  | .local _ .vmem, ⟨8, _⟩ => ⟨S256x8x256, .f32⟩
  | .local _ .vmem, ⟨9, _⟩ => ⟨S256x8x256, .f32⟩
  | .local _ .vmem, ⟨10, _⟩ => ⟨S256x1024, .f32⟩
  | .local _ .vmem, ⟨11, _⟩ => ⟨S256x3072, .bf16⟩
  | .local _ .vmem, ⟨12, _⟩ => ⟨S1024x3072, .bf16⟩
  | .local _ .vmem, ⟨13, _⟩ => ⟨S1024x256, .bf16⟩
  | _, _ => ⟨S256x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9

abbrev nD : Nat := 1
abbrev τ : Topo := Topo.v7x

variable {F : FTy → Type} [FloatOps F]

abbrev grid0 : Pipeline.Grid := ⟨1, ![8], ![false]⟩

def k0_off1 (i : grid0.Coords) (c0_i32_2 : BitVec 32) : Fin 2 → Nat :=
  let arg0 : BitVec 32 := BitVec.ofNat 32 (i 0).val
  let c8_i32 : BitVec 32 := 8#32
  let v4 : BitVec 32 := Scalar.muli arg0 c8_i32
  let v5 : BitVec 32 := Scalar.addi v4 c0_i32_2
  let v6 : Index := Scalar.indexCast v5
  let c0_3 : Index := 0#32
  ![v6.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S64x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S256x64 : Shape := ⟨2, ![256, 64]⟩
abbrev S256x512 : Shape := ⟨2, ![256, 512]⟩
abbrev S3072x512 : Shape := ⟨2, ![3072, 512]⟩
abbrev S3072x1024 : Shape := ⟨2, ![3072, 1024]⟩
abbrev S3072 : Shape := ⟨1, ![3072]⟩
abbrev S256x1024 : Shape := ⟨2, ![256, 1024]⟩
abbrev S256 : Shape := ⟨1, ![256]⟩
abbrev S_ : Shape := ⟨0, ![]⟩
abbrev S256x64x1 : Shape := ⟨3, ![256, 64, 1]⟩
abbrev S1 : Shape := ⟨1, ![1]⟩
abbrev S1x1x1 : Shape := ⟨3, ![1, 1, 1]⟩
abbrev S256x64x512 : Shape := ⟨3, ![256, 64, 512]⟩
abbrev S64x256x512 : Shape := ⟨3, ![64, 256, 512]⟩
abbrev S64x256x1024 : Shape := ⟨3, ![64, 256, 1024]⟩
abbrev S1x256x512 : Shape := ⟨3, ![1, 256, 512]⟩
abbrev S512x3072 : Shape := ⟨2, ![512, 3072]⟩
abbrev S256x3072 : Shape := ⟨2, ![256, 3072]⟩
abbrev S1x3072 : Shape := ⟨2, ![1, 3072]⟩
abbrev S1024x3072 : Shape := ⟨2, ![1024, 3072]⟩
abbrev S1x256x1024 : Shape := ⟨3, ![1, 256, 1024]⟩
abbrev S256x64x1024 : Shape := ⟨3, ![256, 64, 1024]⟩
abbrev S16384x1024 : Shape := ⟨2, ![16384, 1024]⟩
abbrev S1024x256 : Shape := ⟨2, ![1024, 256]⟩
abbrev S16384x256 : Shape := ⟨2, ![16384, 256]⟩
abbrev S1x256 : Shape := ⟨2, ![1, 256]⟩
abbrev S256x64x256 : Shape := ⟨3, ![256, 64, 256]⟩

abbrev nBuf : Space → Nat
  | .hbm => 108
  | .vmem => 0
  | .smem => 0
  | _ => 0

abbrev bufTy : (tb : Table) → Fin (tcTables nBuf tb) → BufTy
  | .hbm, ⟨0, _⟩ => ⟨S256x64, .i32⟩
  | .hbm, ⟨1, _⟩ => ⟨S256x512, .f32⟩
  | .hbm, ⟨2, _⟩ => ⟨S3072x512, .f32⟩
  | .hbm, ⟨3, _⟩ => ⟨S3072x1024, .f32⟩
  | .hbm, ⟨4, _⟩ => ⟨S3072, .f32⟩
  | .hbm, ⟨5, _⟩ => ⟨S3072, .f32⟩
  | .hbm, ⟨6, _⟩ => ⟨S256x1024, .f32⟩
  | .hbm, ⟨7, _⟩ => ⟨S256, .f32⟩
  | .hbm, ⟨8, _⟩ => ⟨S_, .i32⟩
  | .hbm, ⟨9, _⟩ => ⟨S256x64, .i32⟩
  | .hbm, ⟨10, _⟩ => ⟨S256x64, .i1⟩
  | .hbm, ⟨11, _⟩ => ⟨S_, .i32⟩
  | .hbm, ⟨12, _⟩ => ⟨S256x64, .i32⟩
  | .hbm, ⟨13, _⟩ => ⟨S256x64, .i32⟩
  | .hbm, ⟨14, _⟩ => ⟨S256x64, .i32⟩
  | .hbm, ⟨15, _⟩ => ⟨S256x64x1, .i32⟩
  | .hbm, ⟨16, _⟩ => ⟨S1, .i32⟩
  | .hbm, ⟨17, _⟩ => ⟨S_, .i32⟩
  | .hbm, ⟨18, _⟩ => ⟨S256x64x1, .i32⟩
  | .hbm, ⟨19, _⟩ => ⟨S256x64x1, .i1⟩
  | .hbm, ⟨20, _⟩ => ⟨S1x1x1, .i32⟩
  | .hbm, ⟨21, _⟩ => ⟨S256x64x1, .i32⟩
  | .hbm, ⟨22, _⟩ => ⟨S256x64x1, .i1⟩
  | .hbm, ⟨23, _⟩ => ⟨S256x64x1, .i1⟩
  | .hbm, ⟨24, _⟩ => ⟨S_, .i1⟩
  | .hbm, ⟨25, _⟩ => ⟨S256x64, .i1⟩
  | .hbm, ⟨26, _⟩ => ⟨S256x64x512, .f32⟩
  | .hbm, ⟨27, _⟩ => ⟨S256x64x512, .i1⟩
  | .hbm, ⟨28, _⟩ => ⟨S_, .f32⟩
  | .hbm, ⟨29, _⟩ => ⟨S256x64x512, .f32⟩
  | .hbm, ⟨30, _⟩ => ⟨S256x64x512, .f32⟩
  | .hbm, ⟨31, _⟩ => ⟨S_, .f32⟩
  | .hbm, ⟨32, _⟩ => ⟨S256x1024, .f32⟩
  | .hbm, ⟨33, _⟩ => ⟨S64x256x512, .f32⟩
  | .hbm, ⟨34, _⟩ => ⟨S_, .f32⟩
  | .hbm, ⟨35, _⟩ => ⟨S64x256x1024, .f32⟩
  | .hbm, ⟨36, _⟩ => ⟨S_, .i32⟩
  | .hbm, ⟨37, _⟩ => ⟨S64x256x512, .f32⟩
  | .hbm, ⟨38, _⟩ => ⟨S3072x512, .f32⟩
  | .hbm, ⟨39, _⟩ => ⟨S3072, .f32⟩
  | .hbm, ⟨40, _⟩ => ⟨S3072x1024, .f32⟩
  | .hbm, ⟨41, _⟩ => ⟨S3072, .f32⟩
  | .hbm, ⟨42, _⟩ => ⟨S_, .i32⟩
  | .hbm, ⟨43, _⟩ => ⟨S256x1024, .f32⟩
  | .hbm, ⟨44, _⟩ => ⟨S64x256x1024, .f32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S1x256x512, .f32⟩
  | .hbm, ⟨50, _⟩ => ⟨S256x512, .f32⟩
  | .hbm, ⟨51, _⟩ => ⟨S512x3072, .f32⟩
  | .hbm, ⟨52, _⟩ => ⟨S256x3072, .f32⟩
  | .hbm, ⟨53, _⟩ => ⟨S1x3072, .f32⟩
  | .hbm, ⟨54, _⟩ => ⟨S256x3072, .f32⟩
  | .hbm, ⟨55, _⟩ => ⟨S256x3072, .f32⟩
  | .hbm, ⟨56, _⟩ => ⟨S1024x3072, .f32⟩
  | .hbm, ⟨57, _⟩ => ⟨S256x3072, .f32⟩
  | .hbm, ⟨58, _⟩ => ⟨S1x3072, .f32⟩
  | .hbm, ⟨59, _⟩ => ⟨S256x3072, .f32⟩
  | .hbm, ⟨60, _⟩ => ⟨S256x3072, .f32⟩
  | .hbm, ⟨61, _⟩ => ⟨S256x1024, .f32⟩
  | .hbm, ⟨62, _⟩ => ⟨S256x1024, .f32⟩
  | .hbm, ⟨63, _⟩ => ⟨S256x1024, .f32⟩
  | .hbm, ⟨64, _⟩ => ⟨S256x1024, .f32⟩
  | .hbm, ⟨65, _⟩ => ⟨S256x1024, .f32⟩
  | .hbm, ⟨66, _⟩ => ⟨S256x1024, .f32⟩
  | .hbm, ⟨67, _⟩ => ⟨S256x1024, .f32⟩
  | .hbm, ⟨68, _⟩ => ⟨S256x1024, .f32⟩
  | .hbm, ⟨69, _⟩ => ⟨S256x1024, .f32⟩
  | .hbm, ⟨70, _⟩ => ⟨S_, .f32⟩
  | .hbm, ⟨71, _⟩ => ⟨S256x1024, .f32⟩
  | .hbm, ⟨72, _⟩ => ⟨S256x1024, .f32⟩
  | .hbm, ⟨73, _⟩ => ⟨S_, .f32⟩
  | .hbm, ⟨74, _⟩ => ⟨S256x1024, .f32⟩
  | .hbm, ⟨75, _⟩ => ⟨S256x1024, .f32⟩
  | .hbm, ⟨76, _⟩ => ⟨S256x1024, .f32⟩
  | .hbm, ⟨77, _⟩ => ⟨S256x1024, .f32⟩
  | .hbm, ⟨78, _⟩ => ⟨S256x1024, .f32⟩
  | .hbm, ⟨79, _⟩ => ⟨S_, .f32⟩
  | .hbm, ⟨80, _⟩ => ⟨S256x1024, .f32⟩
  | .hbm, ⟨81, _⟩ => ⟨S256x1024, .f32⟩
  | .hbm, ⟨82, _⟩ => ⟨S_, .f32⟩
  | .hbm, ⟨83, _⟩ => ⟨S256x1024, .f32⟩
  | .hbm, ⟨84, _⟩ => ⟨S256x1024, .f32⟩
  | .hbm, ⟨85, _⟩ => ⟨S256x1024, .f32⟩
  | .hbm, ⟨86, _⟩ => ⟨S256x1024, .f32⟩
  | .hbm, ⟨87, _⟩ => ⟨S256x1024, .f32⟩
  | .hbm, ⟨88, _⟩ => ⟨S_, .f32⟩
  | .hbm, ⟨89, _⟩ => ⟨S256x1024, .f32⟩
  | .hbm, ⟨90, _⟩ => ⟨S256x1024, .f32⟩
  | .hbm, ⟨91, _⟩ => ⟨S256x1024, .f32⟩
  | .hbm, ⟨92, _⟩ => ⟨S256x1024, .f32⟩
  | .hbm, ⟨93, _⟩ => ⟨S256x1024, .f32⟩
  | .hbm, ⟨94, _⟩ => ⟨S1x256x1024, .f32⟩
  | .hbm, ⟨95, _⟩ => ⟨S_, .i32⟩
  | .hbm, ⟨96, _⟩ => ⟨S_, .i32⟩
  | .hbm, ⟨97, _⟩ => ⟨S64x256x1024, .f32⟩
  | .hbm, ⟨98, _⟩ => ⟨S_, .i32⟩
  | .hbm, ⟨99, _⟩ => ⟨S_, .i32⟩
  | .hbm, ⟨100, _⟩ => ⟨S256x64x1024, .f32⟩
  | .hbm, ⟨101, _⟩ => ⟨S16384x1024, .f32⟩
  | .hbm, ⟨102, _⟩ => ⟨S1024x256, .f32⟩
  | .hbm, ⟨103, _⟩ => ⟨S16384x256, .f32⟩
  | .hbm, ⟨104, _⟩ => ⟨S1x256, .f32⟩
  | .hbm, ⟨105, _⟩ => ⟨S16384x256, .f32⟩
  | .hbm, ⟨106, _⟩ => ⟨S16384x256, .f32⟩
  | .hbm, ⟨107, _⟩ => ⟨S256x64x256, .f32⟩
  | _, _ => ⟨S256x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_cst : Ref sig .tc := ⟨.hbm, 31, rfl⟩
abbrev main_v1 : Ref sig .tc := ⟨.hbm, 32, rfl⟩
abbrev main_v2 : Ref sig .tc := ⟨.hbm, 33, rfl⟩
abbrev main_cst_0 : Ref sig .tc := ⟨.hbm, 34, rfl⟩
abbrev main_v3 : Ref sig .tc := ⟨.hbm, 35, rfl⟩
abbrev main_c : Ref sig .tc := ⟨.hbm, 36, rfl⟩
abbrev main_v4_0 : Ref sig .tc := ⟨.hbm, 37, rfl⟩
abbrev main_v4_1 : Ref sig .tc := ⟨.hbm, 38, rfl⟩
abbrev main_v4_2 : Ref sig .tc := ⟨.hbm, 39, rfl⟩
abbrev main_v4_3 : Ref sig .tc := ⟨.hbm, 40, rfl⟩
abbrev main_v4_4 : Ref sig .tc := ⟨.hbm, 41, rfl⟩
abbrev main_v4_5 : Ref sig .tc := ⟨.hbm, 42, rfl⟩
abbrev main_v4_6 : Ref sig .tc := ⟨.hbm, 43, rfl⟩
abbrev main_v4_7 : Ref sig .tc := ⟨.hbm, 44, rfl⟩
abbrev main_while0c_c_8 : Ref sig .tc := ⟨.hbm, 45, rfl⟩
abbrev main_while0c_v13 : Ref sig .tc := ⟨.hbm, 46, rfl⟩
abbrev main_while0b_call1_c : Ref sig .tc := ⟨.hbm, 47, rfl⟩
abbrev main_while0b_call1_c_0 : Ref sig .tc := ⟨.hbm, 48, rfl⟩
abbrev main_while0b_call1_v0 : Ref sig .tc := ⟨.hbm, 49, rfl⟩
abbrev main_while0b_v13 : Ref sig .tc := ⟨.hbm, 50, rfl⟩
abbrev main_while0b_v14 : Ref sig .tc := ⟨.hbm, 51, rfl⟩
abbrev main_while0b_v15 : Ref sig .tc := ⟨.hbm, 52, rfl⟩
abbrev main_while0b_v16 : Ref sig .tc := ⟨.hbm, 53, rfl⟩
abbrev main_while0b_v17 : Ref sig .tc := ⟨.hbm, 54, rfl⟩
abbrev main_while0b_v18 : Ref sig .tc := ⟨.hbm, 55, rfl⟩
abbrev main_while0b_v19 : Ref sig .tc := ⟨.hbm, 56, rfl⟩
abbrev main_while0b_v20 : Ref sig .tc := ⟨.hbm, 57, rfl⟩
abbrev main_while0b_v21 : Ref sig .tc := ⟨.hbm, 58, rfl⟩
abbrev main_while0b_v22 : Ref sig .tc := ⟨.hbm, 59, rfl⟩
abbrev main_while0b_v23 : Ref sig .tc := ⟨.hbm, 60, rfl⟩
abbrev main_while0b_v24 : Ref sig .tc := ⟨.hbm, 61, rfl⟩
abbrev main_while0b_v25 : Ref sig .tc := ⟨.hbm, 62, rfl⟩
abbrev main_while0b_v26 : Ref sig .tc := ⟨.hbm, 63, rfl⟩
abbrev main_while0b_v27 : Ref sig .tc := ⟨.hbm, 64, rfl⟩
abbrev main_while0b_v28 : Ref sig .tc := ⟨.hbm, 65, rfl⟩
abbrev main_while0b_v29 : Ref sig .tc := ⟨.hbm, 66, rfl⟩
abbrev main_while0b_v30 : Ref sig .tc := ⟨.hbm, 67, rfl⟩
abbrev main_while0b_v31 : Ref sig .tc := ⟨.hbm, 68, rfl⟩
abbrev main_while0b_v32 : Ref sig .tc := ⟨.hbm, 69, rfl⟩
abbrev main_while0b_cst_8 : Ref sig .tc := ⟨.hbm, 70, rfl⟩
abbrev main_while0b_v33 : Ref sig .tc := ⟨.hbm, 71, rfl⟩
abbrev main_while0b_v34 : Ref sig .tc := ⟨.hbm, 72, rfl⟩
abbrev main_while0b_cst_9 : Ref sig .tc := ⟨.hbm, 73, rfl⟩
abbrev main_while0b_v35 : Ref sig .tc := ⟨.hbm, 74, rfl⟩
abbrev main_while0b_v36 : Ref sig .tc := ⟨.hbm, 75, rfl⟩
abbrev main_while0b_v37 : Ref sig .tc := ⟨.hbm, 76, rfl⟩
abbrev main_while0b_v38 : Ref sig .tc := ⟨.hbm, 77, rfl⟩
abbrev main_while0b_v39 : Ref sig .tc := ⟨.hbm, 78, rfl⟩
abbrev main_while0b_cst_10 : Ref sig .tc := ⟨.hbm, 79, rfl⟩
abbrev main_while0b_v40 : Ref sig .tc := ⟨.hbm, 80, rfl⟩
abbrev main_while0b_v41 : Ref sig .tc := ⟨.hbm, 81, rfl⟩
abbrev main_while0b_cst_11 : Ref sig .tc := ⟨.hbm, 82, rfl⟩
abbrev main_while0b_v42 : Ref sig .tc := ⟨.hbm, 83, rfl⟩
abbrev main_while0b_v43 : Ref sig .tc := ⟨.hbm, 84, rfl⟩
abbrev main_while0b_v44 : Ref sig .tc := ⟨.hbm, 85, rfl⟩
abbrev main_while0b_v45 : Ref sig .tc := ⟨.hbm, 86, rfl⟩
abbrev main_while0b_v46 : Ref sig .tc := ⟨.hbm, 87, rfl⟩
abbrev main_while0b_cst_12 : Ref sig .tc := ⟨.hbm, 88, rfl⟩
abbrev main_while0b_v47 : Ref sig .tc := ⟨.hbm, 89, rfl⟩
abbrev main_while0b_v48 : Ref sig .tc := ⟨.hbm, 90, rfl⟩
abbrev main_while0b_v49 : Ref sig .tc := ⟨.hbm, 91, rfl⟩
abbrev main_while0b_v50 : Ref sig .tc := ⟨.hbm, 92, rfl⟩
abbrev main_while0b_v51 : Ref sig .tc := ⟨.hbm, 93, rfl⟩
abbrev main_while0b_call2_v0 : Ref sig .tc := ⟨.hbm, 94, rfl⟩
abbrev main_while0b_call2_c : Ref sig .tc := ⟨.hbm, 95, rfl⟩
abbrev main_while0b_call2_c_0 : Ref sig .tc := ⟨.hbm, 96, rfl⟩
abbrev main_while0b_v52 : Ref sig .tc := ⟨.hbm, 97, rfl⟩
abbrev main_while0b_c_13 : Ref sig .tc := ⟨.hbm, 98, rfl⟩
abbrev main_while0b_v53 : Ref sig .tc := ⟨.hbm, 99, rfl⟩
abbrev main_v5 : Ref sig .tc := ⟨.hbm, 100, rfl⟩
abbrev main_v6 : Ref sig .tc := ⟨.hbm, 101, rfl⟩
abbrev main_v7 : Ref sig .tc := ⟨.hbm, 102, rfl⟩
abbrev main_v8 : Ref sig .tc := ⟨.hbm, 103, rfl⟩
abbrev main_v9 : Ref sig .tc := ⟨.hbm, 104, rfl⟩
abbrev main_v10 : Ref sig .tc := ⟨.hbm, 105, rfl⟩
abbrev main_v11 : Ref sig .tc := ⟨.hbm, 106, rfl⟩
abbrev main_v12 : Ref sig .tc := ⟨.hbm, 107, rfl⟩

abbrev nD : Nat := 1
abbrev τ : Topo := Topo.v7x

variable {F : FTy → Type} [FloatOps F]

abbrev main_while0_count : Scf.Loop 32 := ⟨0#32, 64#32, 1#32⟩
-- ==== Proof.KernelSteps.lean ====
module

public import proofs.«01_k».proof.Proof.Gen.KernelIdeal.Skeleton
public import Idealize.ShloMosaic.Lib.Pointwise

@[expose] public section

set_option maxRecDepth 16384

noncomputable section

/-! The eight time steps of one grid point: each of the body's cuts of a step is the first step's payload. -/

namespace Cert.KernelIdeal.RefValue

open Cert.KernelIdeal Cert.KernelIdeal.Gen Idealize.ShloMosaic

variable {F : FTy → Type} [FloatOps F]
variable (h : FVec F S256x1024 .f32) (x : Vec F S1x256 .i32) (g : Vec F S256x3072 .bf16) (w : Vec F S1024x3072 .bf16)
  (b : Vec F S1x1024 .f32)

theorem step2 : k0_pay8 h x g w b = k0_pay6 h x g w b := rfl

theorem step3 : k0_pay11 h (k0_pay10 (F := F) x) g w b = k0_pay6 h x g w b := rfl

theorem step4 : k0_pay15 h (k0_pay13 x g) (truncf .bf16 h bitsLt_bf16_f32) w b = k0_pay6 h x g w b := rfl

theorem step4' (r : Vec F S1x256 .i32) :
    k0_pay15 (k0_pay11 h (k0_pay10 (F := F) r) g w b) (k0_pay13 x g) (k0_pay14 h (k0_pay10 (F := F) r) g w b) w b
      = k0_pay6 (k0_pay6 h r g w b) x g w b := rfl

theorem step7 (h' r s : FVec F S256x1024 .f32) :
    k0_pay29 h' r s x g w b = k0_pay6 (k0_pay27 h' r s) x g w b := rfl

theorem step8 : k0_pay31 h x g w b = k0_pay6 h x g w b := rfl

theorem step8' : k0_pay32 h x g w b = k0_pay6 h x g w b :=
  shapeCast_id _ _

theorem step5 (h' : FVec F S256x1024 .f32) (r : FVec F S256x3072 .f32) (s : FVec F S256x1024 .bf16)
    (w' : Vec F S1024x3072 .bf16) (b' : Vec F S1x1024 .f32) :
    k0_pay21 (k0_pay15 h' r s w' b') (k0_pay17 x g) (k0_pay18 h' r s w' b' w) (k0_pay19 h' r s w' b' x g w)
      (k0_pay20 h' r s w' b' x g w) b = k0_pay6 (k0_pay15 h' r s w' b') x g w b := rfl

theorem step6 (h' : FVec F S256x1024 .f32) (r s : FVec F S256x3072 .f32) (p q : FVec F S256x1024 .f32)
    (b' : Vec F S1x1024 .f32) :
    k0_pay27 (k0_pay21 h' r s p q b') (k0_pay25 h' r s p q b' x g w) (k0_pay26 h' r s p q b' x g w b)
      = k0_pay6 (k0_pay21 h' r s p q b') x g w b := rfl

theorem cut1 : k0_pay7 h x g w b = truncf .bf16 (k0_pay6 h x g w b) bitsLt_bf16_f32 := rfl

theorem cut2 : k0_pay9 h x g w b = truncf .bf16 (k0_pay8 h x g w b) bitsLt_bf16_f32 := rfl

theorem cut3 (y : IVec S256x256 1) : k0_pay12 h y g w b = truncf .bf16 (k0_pay11 h y g w b) bitsLt_bf16_f32 := rfl

theorem cut4 (r : FVec F S256x3072 .f32) (s : FVec F S256x1024 .bf16) :
    k0_pay16 h r s w b = truncf .bf16 (k0_pay15 h r s w b) bitsLt_bf16_f32 := rfl

theorem cut5 (r s : FVec F S256x3072 .f32) (p q : FVec F S256x1024 .f32) :
    k0_pay22 h r s p q b = truncf .bf16 (k0_pay21 h r s p q b) bitsLt_bf16_f32 := rfl

theorem cut6 (p q : FVec F S256x1024 .f32) : k0_pay28 h p q = truncf .bf16 (k0_pay27 h p q) bitsLt_bf16_f32 := rfl

theorem cut7 (p q : FVec F S256x1024 .f32) :
    k0_pay30 h p q x g w b = truncf .bf16 (k0_pay29 h p q x g w b) bitsLt_bf16_f32 := rfl

/-- The state after the first `n` steps of a point over the rows `xs`. -/
def chain (xs : Fin 8 → Vec F S1x256 .i32) : ℕ → FVec F S256x1024 .f32
  | 0 => h
  | n + 1 => k0_pay6 (chain xs n) (xs (Fin.ofNat 8 n)) g w b

/-- The logits a point stores, from the state it starts at. -/
def logits (xs : Fin 8 → Vec F S1x256 .i32) (f : Vec F S1024x256 .bf16) (bf : Vec F S1x256 .f32) : FVec F S256x8x256 .f32 :=
  let V : ℕ → FVec F S256x1024 .f32 := fun n => chain h g w b xs (n + 1)
  k0_pay1 (k0_pay33 (truncf .bf16 (V 0) bitsLt_bf16_f32) (truncf .bf16 (V 1) bitsLt_bf16_f32) (truncf .bf16 (V 2) bitsLt_bf16_f32)
    (truncf .bf16 (V 3) bitsLt_bf16_f32) (truncf .bf16 (V 4) bitsLt_bf16_f32) (truncf .bf16 (V 5) bitsLt_bf16_f32) (V 6)
    (truncf .bf16 (V 6) bitsLt_bf16_f32) (xs 7) g w b f bf)

end Cert.KernelIdeal.RefValue

end
-- ==== Proof.KernelPoints.lean ====
module

public import proofs.«01_k».proof.Proof.KernelSteps
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

/-! What each grid point leaves: in the carried scratches and in the block of logits. -/

namespace Cert.KernelIdeal.RefValue

open Cert.KernelIdeal Cert.KernelIdeal.Gen Idealize.ShloMosaic

variable {F : FTy → Type} [FloatOps F]

/-- The row of characters step `u` of a point loads. -/
def xrow (X : Vec F S64x256 .i32) (i : grid0.Coords) (u : Fin 8) : Vec F S1x256 .i32 :=
  View.ld X (Rect.unit (s := S64x256) (k0_off1 i (BitVec.ofNat 32 u.val)) S1x256.size (k0_off1_inb i u))

variable (m : (ℓ : Loc nD τ sig) → Buf (Elt F) ℓ)

/-- The carried scratches before point `t`, as the point before left them. -/
abbrev before (c : Dev nD) (t : Fin cfg0.N) := (outsAt0 m c (t.val - 1) (Nat.lt_of_le_of_lt (Nat.sub_le _ _) t.isLt)).2

theorem state_first (c : Dev nD) (t : Fin cfg0.N) (h0 : t.val % 8 = 0) :
    (outsAt0 m c t.val t.isLt).2.1 = chain (F := F) k0_pay5 (k0_pay4 (iblk m c 1 t) (iblk m c 2 t) (iblk m c 4 t)) (k0_pay2 (iblk m c 3 t))
      (iblk m c 5 t) (xrow (iblk m c 0 t) (grid0.coords t)) 8 := by
  rw [outsAt0_A m c t h0]
  frame_out
  simp only [↓step8', ↓step7, ↓step6, ↓step5, ↓step4', ↓step3, ↓step2]
  rfl

theorem state_next (c : Dev nD) (t : Fin cfg0.N) (h0 : ¬ t.val % 8 = 0) :
    (outsAt0 m c t.val t.isLt).2.1 = chain (before m c t).1 (before m c t).2.1 (before m c t).2.2.1 (iblk m c 5 t)
      (xrow (iblk m c 0 t) (grid0.coords t)) 8 := by
  rw [outsAt0_B m c t h0]
  frame_out
  simp only [read_unread_whole, ↓step8', ↓step7, ↓step6, ↓step5, ↓step4', ↓step3, ↓step2]
  rfl

theorem kept_next (c : Dev nD) (t : Fin cfg0.N) (h0 : ¬ t.val % 8 = 0) :
    (outsAt0 m c t.val t.isLt).2.2 = (before m c t).2 := by
  rw [outsAt0_B m c t h0]
  rfl

theorem table_first (c : Dev nD) (t : Fin cfg0.N) (h0 : t.val % 8 = 0) :
    (outsAt0 m c t.val t.isLt).2.2.1 = k0_pay4 (F := F) (iblk m c 1 t) (iblk m c 2 t) (iblk m c 4 t) := by
  rw [outsAt0_A m c t h0]
  frame_out

theorem hidden_first (c : Dev nD) (t : Fin cfg0.N) (h0 : t.val % 8 = 0) :
    (outsAt0 m c t.val t.isLt).2.2.2.1 = k0_pay2 (F := F) (iblk m c 3 t) := by
  rw [outsAt0_A m c t h0]
  frame_out

theorem head_first (c : Dev nD) (t : Fin cfg0.N) (h0 : t.val % 8 = 0) :
    (outsAt0 m c t.val t.isLt).2.2.2.2 = k0_pay3 (F := F) (iblk m c 6 t) := by
  rw [outsAt0_A m c t h0]
  frame_out

theorem logits_first (c : Dev nD) (t : Fin cfg0.N) (h0 : t.val % 8 = 0) :
    (outsAt0 m c t.val t.isLt).1 = logits (F := F) k0_pay5 (k0_pay4 (iblk m c 1 t) (iblk m c 2 t) (iblk m c 4 t)) (k0_pay2 (iblk m c 3 t))
      (iblk m c 5 t) (xrow (iblk m c 0 t) (grid0.coords t)) (k0_pay3 (iblk m c 6 t)) (iblk m c 7 t) := by
  rw [outsAt0_A m c t h0]
  frame_out
  simp only [↓cut7, ↓cut6, ↓cut5, ↓cut4, ↓cut3, ↓cut2, ↓cut1, ↓step8', ↓step7, ↓step6, ↓step5, ↓step4', ↓step3, ↓step2]
  rfl

theorem logits_next (c : Dev nD) (t : Fin cfg0.N) (h0 : ¬ t.val % 8 = 0) :
    (outsAt0 m c t.val t.isLt).1 = logits (before m c t).1 (before m c t).2.1 (before m c t).2.2.1 (iblk m c 5 t)
      (xrow (iblk m c 0 t) (grid0.coords t)) (before m c t).2.2.2 (iblk m c 7 t) := by
  rw [outsAt0_B m c t h0]
  frame_out
  simp only [read_unread_whole, ↓cut7, ↓cut6, ↓cut5, ↓cut4, ↓cut3, ↓cut2, ↓cut1, ↓step8', ↓step7, ↓step6, ↓step5, ↓step4', ↓step3, ↓step2]
  rfl

end Cert.KernelIdeal.RefValue

end
-- ==== Proof.KernelBlocks.lean ====
module

public import proofs.«01_k».proof.Proof.KernelPoints
public import Idealize.ShloMosaic.Lib.Pointwise
public import Idealize.ShloMosaic.Lib.Claim

@[expose] public section

set_option maxRecDepth 16384

noncomputable section

/-! The windows' blocks as the arguments at an index. -/

namespace Cert.KernelIdeal.RefValue

open Cert.KernelIdeal Cert.KernelIdeal.Gen Idealize.ShloMosaic Idealize.ShloMosaic.TcCoe

variable (m : (ℓ : Loc nD τ sig) → Buf (Elt Ideal) ℓ)

abbrev a0 (c : Dev nD) : IVec S256x64 32 := m ((c : Thread nD τ).loc main_arg0)
abbrev a1 (c : Dev nD) : FVec Ideal S256x512 .f32 := m ((c : Thread nD τ).loc main_arg1)
abbrev a2 (c : Dev nD) : FVec Ideal S3072x512 .f32 := m ((c : Thread nD τ).loc main_arg2)
abbrev a3 (c : Dev nD) : FVec Ideal S3072x1024 .f32 := m ((c : Thread nD τ).loc main_arg3)
abbrev a4 (c : Dev nD) : FVec Ideal S3072 .f32 := m ((c : Thread nD τ).loc main_arg4)
abbrev a5 (c : Dev nD) : FVec Ideal S3072 .f32 := m ((c : Thread nD τ).loc main_arg5)
abbrev a6 (c : Dev nD) : FVec Ideal S256x1024 .f32 := m ((c : Thread nD τ).loc main_arg6)
abbrev a7 (c : Dev nD) : FVec Ideal S256 .f32 := m ((c : Thread nD τ).loc main_arg7)

theorem i0 : ∀ t : Fin cfg0.N, win0_0.index t = ![0, 0] := (by decide +kernel : ∀ t : Fin grid0.N, win0_0.index t = ![0, 0])
theorem i1 : ∀ t : Fin cfg0.N, win0_1.index t = ![0, 0] := (by decide +kernel : ∀ t : Fin grid0.N, win0_1.index t = ![0, 0])
theorem i2 : ∀ t : Fin cfg0.N, win0_2.index t = ![0, 0] := (by decide +kernel : ∀ t : Fin grid0.N, win0_2.index t = ![0, 0])
theorem i3 : ∀ t : Fin cfg0.N, win0_3.index t = ![0, 0] := (by decide +kernel : ∀ t : Fin grid0.N, win0_3.index t = ![0, 0])
theorem i4 : ∀ t : Fin cfg0.N, win0_4.index t = ![0, 0] := (by decide +kernel : ∀ t : Fin grid0.N, win0_4.index t = ![0, 0])
theorem i5 : ∀ t : Fin cfg0.N, win0_5.index t = ![0, 0] := (by decide +kernel : ∀ t : Fin grid0.N, win0_5.index t = ![0, 0])
theorem i6 : ∀ t : Fin cfg0.N, win0_6.index t = ![0, 0] := (by decide +kernel : ∀ t : Fin grid0.N, win0_6.index t = ![0, 0])
theorem i7 : ∀ t : Fin cfg0.N, win0_7.index t = ![0, 0] := (by decide +kernel : ∀ t : Fin grid0.N, win0_7.index t = ![0, 0])

theorem blk1 (c : Dev nD) (t : Fin cfg0.N) : (iblk m c 1 t : FVec Ideal S256x512 .f32) = a1 m c := by
  unfold a1
  rw [← V_main_arg1 m c]
  blk_ext! [iblk, i1 t]

theorem blk2 (c : Dev nD) (t : Fin cfg0.N) : (iblk m c 2 t : FVec Ideal S3072x512 .f32) = a2 m c := by
  unfold a2
  rw [← V_main_arg2 m c]
  blk_ext! [iblk, i2 t]

theorem blk3 (c : Dev nD) (t : Fin cfg0.N) : (iblk m c 3 t : FVec Ideal S3072x1024 .f32) = a3 m c := by
  unfold a3
  rw [← V_main_arg3 m c]
  blk_ext! [iblk, i3 t]

theorem blk6 (c : Dev nD) (t : Fin cfg0.N) : (iblk m c 6 t : FVec Ideal S256x1024 .f32) = a6 m c := by
  unfold a6
  rw [← V_main_arg6 m c]
  blk_ext! [iblk, i6 t]

theorem blk0 (c : Dev nD) (t : Fin cfg0.N) : (iblk m c 0 t : IVec S64x256 32) = V m c main_v0 := by
  blk_ext! [iblk, i0 t]

theorem blk4 (c : Dev nD) (t : Fin cfg0.N) : (iblk m c 4 t : FVec Ideal S1x3072 .f32) = V m c main_v6 := by
  blk_ext! [iblk, i4 t]

theorem blk5 (c : Dev nD) (t : Fin cfg0.N) : (iblk m c 5 t : FVec Ideal S1x1024 .f32) = V m c main_v8 := by
  blk_ext! [iblk, i5 t]

theorem blk7 (c : Dev nD) (t : Fin cfg0.N) : (iblk m c 7 t : FVec Ideal S1x256 .f32) = V m c main_v9 := by
  blk_ext! [iblk, i7 t]

theorem v0_at (c : Dev nD) (s : Fin 64) (p : Fin 256) :
    (V m c main_v0 : IVec S64x256 32) (ix2 s p) = a0 m c (ix2 p s) := by
  entry_read
  pointwise

theorem v8_at (c : Dev nD) (k : Fin 1024) :
    (V m c main_v8 : FVec Ideal S1x1024 .f32) (ix2 0 k)
      = a5 m c (ix1 ⟨2048 + k.val, by omega⟩) := by
  entry_read
  pointwise

theorem v9_at (c : Dev nD) (k : Fin 256) :
    (V m c main_v9 : FVec Ideal S1x256 .f32) (ix2 0 k) = a7 m c (ix1 k) := by
  entry_read
  pointwise

theorem v6_low (c : Dev nD) (j : Fin 3072) (hj : j.val < 2048) :
    (V m c main_v6 : FVec Ideal S1x3072 .f32) (ix2 0 j)
      = a4 m c (ix1 j)
        + a5 m c (ix1 j) := by
  entry_read
  pointwise
  rw [dif_pos hj]

theorem v6_high (c : Dev nD) (j : Fin 3072) (hj : ¬ j.val < 2048) :
    (V m c main_v6 : FVec Ideal S1x3072 .f32) (ix2 0 j)
      = a4 m c (ix1 j) + 0 := by
  entry_read
  pointwise
  rw [dif_neg hj]
  exact add_zero (a4 m c (ix1 j) : EReal)

theorem coord : ∀ t : Fin cfg0.N, ((grid0.coords t) 0).val = t.val := (by decide +kernel : ∀ t : Fin grid0.N, ((grid0.coords t) 0).val = t.val)

theorem xrow_at (X : Vec Ideal S64x256 .i32) (t : Fin cfg0.N) (u : Fin 8) (p : Fin 256) (s : Fin 64) (hs : s.val = 8 * t.val + u.val) :
    xrow X (grid0.coords t) u (ix2 0 p) = X (ix2 s p) := by
  have e := k0_off1_eq (grid0.coords t) u
  unfold xrow
  pointwise
  congr 2
  · apply Fin.ext
    show k0_off1 (grid0.coords t) (BitVec.ofNat 32 u.val) 0 = s.val
    rw [e, hs, ← coord t]
    rfl
  · apply Fin.ext
    show k0_off1 (grid0.coords t) (BitVec.ofNat 32 u.val) 1 + p.val = p.val
    rw [e]
    exact Nat.zero_add _

end Cert.KernelIdeal.RefValue

end
-- ==== Proof.Spec.lean ====
module

public import Idealize.ShloMosaic.Lib.Pointwise

@[expose] public section

noncomputable section

/-! The recurrence as plain functions on extended reals, and the one identity the fused step needs: the hidden state is
real, so the two ways of blending it with the candidate agree. -/

namespace Cert.Gru

open Idealize.ShloMosaic

/-- The input's share of gate `j` for character `v`. -/
def gi (E : Fin 256 → Fin 512 → EReal) (Wi : Fin 3072 → Fin 512 → EReal) (bi : Fin 3072 → EReal) (v : Fin 256) (j : Fin 3072) : EReal :=
  ∑ e, E v e * Wi j e + bi j

/-- The hidden state's share of gate `j`. -/
def gh (Wh : Fin 3072 → Fin 1024 → EReal) (bh : Fin 3072 → EReal) (h : Fin 1024 → EReal) (j : Fin 3072) : EReal :=
  ∑ k, h k * Wh j k + bh j

def jr (k : Fin 1024) : Fin 3072 := ⟨k.val, by omega⟩
def jz (k : Fin 1024) : Fin 3072 := ⟨1024 + k.val, by omega⟩
def jn (k : Fin 1024) : Fin 3072 := ⟨2048 + k.val, by omega⟩

/-- One step at unit `k`, from the two shares of the gates and the state before. -/
def cell (a c : Fin 3072 → EReal) (h : Fin 1024 → EReal) (k : Fin 1024) : EReal :=
  let z := Ideal.logistic (a (jz k) + c (jz k))
  let n := Ideal.tanh (a (jn k) + Ideal.logistic (a (jr k) + c (jr k)) * c (jn k))
  (1 - z) * n + z * h k

/-- The hidden state after `n` characters of the text `x`. -/
def hs (E : Fin 256 → Fin 512 → EReal) (Wi : Fin 3072 → Fin 512 → EReal) (Wh : Fin 3072 → Fin 1024 → EReal) (bi bh : Fin 3072 → EReal)
    (x : ℕ → Fin 256) : ℕ → Fin 1024 → EReal
  | 0 => fun _ => 0
  | n + 1 => cell (gi E Wi bi (x n)) (gh Wh bh (hs E Wi Wh bi bh x n)) (hs E Wi Wh bi bh x n)

theorem tanh_real (x : EReal) : ∃ r : ℝ, Ideal.tanh x = (r : EReal) := by
  induction x with
  | bot => exact ⟨-1, by simp⟩
  | coe r => exact ⟨_, Ideal.tanh_coe r⟩
  | top => exact ⟨1, by simp⟩

theorem logistic_real (x : EReal) : ∃ r : ℝ, Ideal.logistic x = (r : EReal) := by
  induction x with
  | bot => exact ⟨0, by simp⟩
  | coe r => exact ⟨_, Ideal.logistic_coe r⟩
  | top => exact ⟨1, by simp⟩

/-- On reals the two blends agree. -/
theorem blend (z n h : EReal) (hz : ∃ r : ℝ, z = (r : EReal)) (hn : ∃ r : ℝ, n = (r : EReal)) (hh : ∃ r : ℝ, h = (r : EReal)) :
    n + z * (h - n) = (1 - z) * n + z * h := by
  obtain ⟨z, rfl⟩ := hz
  obtain ⟨n, rfl⟩ := hn
  obtain ⟨h, rfl⟩ := hh
  rw [← EReal.coe_one]
  simp only [← EReal.coe_sub, ← EReal.coe_mul, ← EReal.coe_add]
  congr 1
  ring

theorem cell_real (a c : Fin 3072 → EReal) (h : Fin 1024 → EReal) (k : Fin 1024) (hh : ∃ r : ℝ, h k = (r : EReal)) :
    ∃ r : ℝ, cell a c h k = (r : EReal) := by
  unfold cell
  obtain ⟨z, hz⟩ := logistic_real (a (jz k) + c (jz k))
  obtain ⟨n, hn⟩ := tanh_real (a (jn k) + Ideal.logistic (a (jr k) + c (jr k)) * c (jn k))
  obtain ⟨h', hh⟩ := hh
  refine ⟨(1 - z) * n + z * h', ?_⟩
  simp only [hz, hn, hh]
  rw [← EReal.coe_one]
  simp only [← EReal.coe_sub, ← EReal.coe_mul, ← EReal.coe_add]

theorem hs_real (E : Fin 256 → Fin 512 → EReal) (Wi : Fin 3072 → Fin 512 → EReal) (Wh : Fin 3072 → Fin 1024 → EReal) (bi bh : Fin 3072 → EReal)
    (x : ℕ → Fin 256) (n : ℕ) (k : Fin 1024) : ∃ r : ℝ, hs E Wi Wh bi bh x n k = (r : EReal) := by
  induction n generalizing k with
  | zero => exact ⟨0, rfl⟩
  | succ n ih => exact cell_real _ _ _ _ (ih k)

/-- The fused step: the first two gates take the hidden bias with the input's share, the third keeps it by the hidden share. -/
theorem fused (G : Fin 3072 → EReal) (S bi bh s : Fin 3072 → EReal) (h : Fin 1024 → EReal) (k : Fin 1024) (hh : ∃ r : ℝ, h k = (r : EReal))
    (er : G (jr k) = S (jr k) + (bi (jr k) + bh (jr k))) (ez : G (jz k) = S (jz k) + (bi (jz k) + bh (jz k)))
    (en : G (jn k) = S (jn k) + (bi (jn k) + 0)) :
    Ideal.tanh (G (jn k) + Ideal.logistic (G (jr k) + s (jr k)) * (s (jn k) + bh (jn k)))
      + Ideal.logistic (G (jz k) + s (jz k))
        * (h k - Ideal.tanh (G (jn k) + Ideal.logistic (G (jr k) + s (jr k)) * (s (jn k) + bh (jn k))))
      = cell (fun j => S j + bi j) (fun j => s j + bh j) h k := by
  rw [blend _ _ _ (logistic_real _) (tanh_real _) hh]
  have e1 : ∀ a b c d : EReal, a + (b + c) + d = a + b + (d + c) := fun a b c d => by ac_rfl
  simp only [cell, er, ez, en, e1, add_zero]

end Cert.Gru

end
-- ==== Proof.KernelReads.lean ====
module

public import proofs.«01_k».proof.Proof.KernelSteps
public import proofs.«01_k».proof.Proof.Spec

@[expose] public section

set_option maxRecDepth 16384

noncomputable section

/-! The body's payloads at an index. -/

namespace Cert.KernelIdeal.RefValue

open Cert.KernelIdeal Cert.KernelIdeal.Gen Idealize.ShloMosaic Cert.Gru

/-- A one-hot row times a column is the entry the row names. -/
theorem sum_hot (w : BitVec 32) (v : Fin 256) (hw : w = BitVec.ofNat 32 v.val) (f : Fin 256 → EReal) :
    ∑ u : Fin 256, (FloatOps.sitofp (F := Ideal) FTy.f32
        (BitVec.setWidth 32 (IntOp.cmpi CmpIPredicate.eq w (BitVec.ofNat 32 u.val))) : EReal) * f u = f v := by
  subst hw
  rw [Finset.sum_eq_single v]
  · have : BitVec.setWidth 32 (IntOp.cmpi CmpIPredicate.eq (BitVec.ofNat 32 v.val) (BitVec.ofNat 32 v.val)) = 1#32 := by
      simp [IntOp.cmpi]
    rw [this, show (FloatOps.sitofp (F := Ideal) FTy.f32 1#32 : EReal) = 1 from by
      rw [show (FloatOps.sitofp (F := Ideal) FTy.f32 1#32 : EReal) = (((1#32 : BitVec 32).toInt : ℝ) : EReal) from rfl]; simp]
    exact one_mul _
  · intro u _ hu
    have : BitVec.setWidth 32 (IntOp.cmpi CmpIPredicate.eq (BitVec.ofNat 32 v.val) (BitVec.ofNat 32 u.val)) = 0#32 := by
      have hne : BitVec.ofNat 32 v.val ≠ BitVec.ofNat 32 u.val := by
        intro h
        have h := congrArg BitVec.toNat h
        simp only [BitVec.toNat_ofNat] at h
        apply hu; apply Fin.ext; omega
      simp only [IntOp.cmpi, beq_eq_false_iff_ne.mpr hne]
      rfl
    rw [this, show (FloatOps.sitofp (F := Ideal) FTy.f32 0#32 : EReal) = 0 from by
      rw [show (FloatOps.sitofp (F := Ideal) FTy.f32 0#32 : EReal) = (((0#32 : BitVec 32).toInt : ℝ) : EReal) from rfl]; simp]
    exact zero_mul _
  · intro h; exact absurd (Finset.mem_univ v) h

theorem pay6_at (h : FVec Ideal S256x1024 .f32) (x : Vec Ideal S1x256 .i32) (g : FVec Ideal S256x3072 .bf16)
    (w : FVec Ideal S1024x3072 .bf16) (b : FVec Ideal S1x1024 .f32) (p : Fin 256) (k : Fin 1024) (v : Fin 256)
    (hv : x (ix2 0 p) = BitVec.ofNat 32 v.val) :
    k0_pay6 (F := Ideal) h x g w b (ix2 p k)
      = Ideal.tanh (g (ix2 v (jn k)) + Ideal.logistic (g (ix2 v (jr k)) + ∑ e, h (ix2 p e) * w (ix2 e (jr k)))
            * (∑ e, h (ix2 p e) * w (ix2 e (jn k)) + b (ix2 0 k)))
          + Ideal.logistic (g (ix2 v (jz k)) + ∑ e, h (ix2 p e) * w (ix2 e (jz k)))
            * (h (ix2 p k) - Ideal.tanh (g (ix2 v (jn k))
                + Ideal.logistic (g (ix2 v (jr k)) + ∑ e, h (ix2 p e) * w (ix2 e (jr k)))
                  * (∑ e, h (ix2 p e) * w (ix2 e (jn k)) + b (ix2 0 k)))) := by
  pointwise [k0_pay6]
  simp only [sum_hot _ v hv (fun u => g (ix2 u _))]
  rfl

theorem pay4_at (e : FVec Ideal S256x512 .f32) (w : FVec Ideal S3072x512 .f32) (b : FVec Ideal S1x3072 .f32) (p : Fin 256) (k : Fin 3072) :
    k0_pay4 (F := Ideal) e w b (ix2 p k) = ∑ x, e (ix2 p x) * w (ix2 k x) + b (ix2 0 k) := by
  pointwise [k0_pay4]

theorem pay2_at (w : FVec Ideal S3072x1024 .f32) (p : Fin 1024) (k : Fin 3072) : k0_pay2 (F := Ideal) w (ix2 p k) = w (ix2 k p) := by
  pointwise [k0_pay2]

theorem pay3_at (w : FVec Ideal S256x1024 .f32) (p : Fin 1024) (k : Fin 256) : k0_pay3 (F := Ideal) w (ix2 p k) = w (ix2 k p) := by
  pointwise [k0_pay3]

theorem pay5_at (p : Fin 256) (k : Fin 1024) : k0_pay5 (F := Ideal) (ix2 p k) = 0 := by
  pointwise [k0_pay5]

/-- The block of logits: row `u` of the eight states against the head's weights. -/
theorem logits_at (V : ℕ → FVec Ideal S256x1024 .f32) (h7 : FVec Ideal S256x1024 .f32) (x : Vec Ideal S1x256 .i32)
    (g : FVec Ideal S256x3072 .bf16) (w : FVec Ideal S1024x3072 .bf16) (b : FVec Ideal S1x1024 .f32) (f : FVec Ideal S1024x256 .bf16)
    (bf : FVec Ideal S1x256 .f32) (h8 : k0_pay6 (F := Ideal) h7 x g w b = V 7) (p : Fin 256) (u : Fin 8) (v : Fin 256) :
    k0_pay1 (F := Ideal) (k0_pay33 (F := Ideal) (truncf .bf16 (V 0) bitsLt_bf16_f32) (truncf .bf16 (V 1) bitsLt_bf16_f32)
        (truncf .bf16 (V 2) bitsLt_bf16_f32) (truncf .bf16 (V 3) bitsLt_bf16_f32) (truncf .bf16 (V 4) bitsLt_bf16_f32)
        (truncf .bf16 (V 5) bitsLt_bf16_f32) h7 (truncf .bf16 (V 6) bitsLt_bf16_f32) x g w b f bf) (ix3 p u v)
      = ∑ e, V u.val (ix2 p e) * f (ix2 e v) + bf (ix2 0 v) := by
  pointwise [k0_pay1, k0_pay33]
  congr 1
  refine Finset.sum_congr rfl fun e _ => ?_
  congr 1
  fin_vals u with hk
  all_goals
    simp only [hk]
    simp (disch := omega) only [dif_neg, dif_pos, step8, h8]
    congr 2
    apply Fin.ext
    dsimp only
    omega

end Cert.KernelIdeal.RefValue

end
-- ==== Proof.KernelFinal.lean ====
module

public import proofs.«01_k».proof.Proof.KernelBlocks
public import proofs.«01_k».proof.Proof.KernelReads

@[expose] public section

set_option maxRecDepth 16384

noncomputable section

/-! The kernel's result is the recurrence's logits. -/

namespace Cert.KernelIdeal.RefValue

open Cert.KernelIdeal Cert.KernelIdeal.Gen Idealize.ShloMosaic Idealize.ShloMosaic.TcCoe Cert.Gru

variable (m : (ℓ : Loc nD τ sig) → Buf (Elt Ideal) ℓ)

/-- The characters as row numbers: `X p s` is the one text `p` holds at place `s`. -/
def Names (c : Dev nD) (X : Fin 256 → ℕ → Fin 256) : Prop :=
  ∀ (p : Fin 256) (s : Fin 64), a0 m c (ix2 p s) = BitVec.ofNat 32 (X p s.val).val

/-- The recurrence at the kernel's arguments. -/
abbrev hsK (c : Dev nD) (X : Fin 256 → ℕ → Fin 256) (p : Fin 256) : ℕ → Fin 1024 → EReal :=
  hs (fun v e => a1 m c (ix2 v e)) (fun j e => a2 m c (ix2 j e)) (fun j k => a3 m c (ix2 j k)) (fun j => a4 m c (ix1 j))
    (fun j => a5 m c (ix1 j)) (X p)

/-- The scratches hold the gate table, the transposed weights and the head's. -/
structure Tables (c : Dev nD) (g : FVec Ideal S256x3072 .bf16) (w : FVec Ideal S1024x3072 .bf16) (f : FVec Ideal S1024x256 .bf16) : Prop where
  g : ∀ (v : Fin 256) (j : Fin 3072), g (ix2 v j) = ∑ e, a1 m c (ix2 v e) * a2 m c (ix2 j e) + (V m c main_v6 : FVec Ideal S1x3072 .f32) (ix2 0 j)
  w : ∀ (k : Fin 1024) (j : Fin 3072), w (ix2 k j) = a3 m c (ix2 j k)
  f : ∀ (k : Fin 1024) (v : Fin 256), f (ix2 k v) = a6 m c (ix2 v k)

variable (c : Dev nD) (X : Fin 256 → ℕ → Fin 256)

/-- One step from the state at place `s`. -/
theorem step_at (hX : Names m c X) (g : FVec Ideal S256x3072 .bf16) (w : FVec Ideal S1024x3072 .bf16) (f : FVec Ideal S1024x256 .bf16)
    (T : Tables m c g w f) (h : FVec Ideal S256x1024 .f32) (x : Vec Ideal S1x256 .i32) (b : FVec Ideal S1x1024 .f32) (s : Fin 64)
    (hx : ∀ p : Fin 256, x (ix2 0 p) = a0 m c (ix2 p s)) (hb : ∀ k : Fin 1024, b (ix2 0 k) = a5 m c (ix1 (jn k)))
    (hh : ∀ (p : Fin 256) (k : Fin 1024), h (ix2 p k) = hsK m c X p s.val k) (p : Fin 256) (k : Fin 1024) :
    k0_pay6 (F := Ideal) h x g w b (ix2 p k) = hsK m c X p (s.val + 1) k := by
  rw [pay6_at h x g w b p k (X p s.val) ((hx p).trans (hX p s))]
  have hr : ∃ r : ℝ, h (ix2 p k) = (r : EReal) := by rw [hh]; exact hs_real _ _ _ _ _ _ _ _
  have e := fused (fun j => g (ix2 (X p s.val) j)) (fun j => ∑ e, a1 m c (ix2 (X p s.val) e) * a2 m c (ix2 j e))
    (fun j => a4 m c (ix1 j)) (fun j => a5 m c (ix1 j)) (fun j => ∑ e, h (ix2 p e) * w (ix2 e j)) (fun k => h (ix2 p k)) k hr
    (by rw [T.g, v6_low m c (jr k) (by show k.val < 2048; omega)])
    (by rw [T.g, v6_low m c (jz k) (by show 1024 + k.val < 2048; omega)])
    (by rw [T.g, v6_high m c (jn k) (by show ¬ 2048 + k.val < 2048; omega)])
  rw [hb k, e]
  show _ = cell _ _ _ k
  unfold cell gi gh
  simp only [hh, T.w]

/-- The state after `n` steps of the point that starts at place `s`. -/
theorem chain_at (hX : Names m c X) (g : FVec Ideal S256x3072 .bf16) (w : FVec Ideal S1024x3072 .bf16) (f : FVec Ideal S1024x256 .bf16)
    (T : Tables m c g w f) (h : FVec Ideal S256x1024 .f32) (b : FVec Ideal S1x1024 .f32) (xs : Fin 8 → Vec Ideal S1x256 .i32) (s : ℕ)
    (hs8 : s + 8 ≤ 64) (hx : ∀ (u : Fin 8) (p : Fin 256), xs u (ix2 0 p) = a0 m c (ix2 p ⟨s + u.val, by omega⟩))
    (hb : ∀ k : Fin 1024, b (ix2 0 k) = a5 m c (ix1 (jn k)))
    (hh : ∀ (p : Fin 256) (k : Fin 1024), h (ix2 p k) = hsK m c X p s k) (n : ℕ) (hn : n ≤ 8) (p : Fin 256) (k : Fin 1024) :
    chain (F := Ideal) h g w b xs n (ix2 p k) = hsK m c X p (s + n) k := by
  induction n generalizing p k with
  | zero => exact hh p k
  | succ n ih =>
    refine step_at m c X hX g w f T _ _ b ⟨s + n, by omega⟩ (fun p => ?_) hb (fun p k => ih (by omega) p k) p k
    rw [hx]
    congr 3
    show s + n % 8 = s + n
    rw [Nat.mod_eq_of_lt (by omega)]

/-- The logits of a point that starts at place `s`. -/
theorem logits_point (hX : Names m c X) (g : FVec Ideal S256x3072 .bf16) (w : FVec Ideal S1024x3072 .bf16) (f : FVec Ideal S1024x256 .bf16)
    (T : Tables m c g w f) (h : FVec Ideal S256x1024 .f32) (b : FVec Ideal S1x1024 .f32) (xs : Fin 8 → Vec Ideal S1x256 .i32)
    (bf : FVec Ideal S1x256 .f32) (s : ℕ)
    (hs8 : s + 8 ≤ 64) (hx : ∀ (u : Fin 8) (p : Fin 256), xs u (ix2 0 p) = a0 m c (ix2 p ⟨s + u.val, by omega⟩))
    (hb : ∀ k : Fin 1024, b (ix2 0 k) = a5 m c (ix1 (jn k))) (hbf : ∀ v : Fin 256, bf (ix2 0 v) = a7 m c (ix1 v))
    (hh : ∀ (p : Fin 256) (k : Fin 1024), h (ix2 p k) = hsK m c X p s k) (p : Fin 256) (u : Fin 8) (v : Fin 256) :
    logits (F := Ideal) h g w b xs f bf (ix3 p u v)
      = ∑ k, hsK m c X p (s + u.val + 1) k * a6 m c (ix2 v k) + a7 m c (ix1 v) := by
  refine (logits_at (fun n => chain (F := Ideal) h g w b xs (n + 1)) _ (xs 7) g w b f bf rfl p u v).trans ?_
  rw [hbf]
  congr 1
  refine Finset.sum_congr rfl fun k _ => ?_
  rw [T.f, chain_at m c X hX g w f T h b xs s hs8 hx hb hh (u.val + 1) (by omega), ← Nat.add_assoc]

theorem tables_first (t : Fin cfg0.N) (h0 : t.val % 8 = 0) :
    Tables m c (k0_pay4 (iblk m c 1 t) (iblk m c 2 t) (iblk m c 4 t)) (k0_pay2 (iblk m c 3 t)) (k0_pay3 (iblk m c 6 t)) where
  g v j := by rw [blk1, blk2, blk4]; exact pay4_at _ _ _ v j
  w k j := by rw [blk3]; exact pay2_at _ k j
  f k v := by rw [blk6]; exact pay3_at _ k v

theorem rows_at (t : Fin cfg0.N) (h64 : 8 * t.val + 8 ≤ 64) (u : Fin 8) (p : Fin 256) :
    xrow (F := Ideal) (iblk m c 0 t) (grid0.coords t) u (ix2 0 p) = a0 m c (ix2 p ⟨8 * t.val + u.val, by omega⟩) := by
  rw [blk0, xrow_at _ t u p ⟨8 * t.val + u.val, by omega⟩ rfl, v0_at]

theorem bias_at (t : Fin cfg0.N) (k : Fin 1024) : (iblk m c 5 t : FVec Ideal S1x1024 .f32) (ix2 0 k) = a5 m c (ix1 (jn k)) := by
  rw [blk5, v8_at]; rfl

theorem headbias_at (t : Fin cfg0.N) (v : Fin 256) : (iblk m c 7 t : FVec Ideal S1x256 .f32) (ix2 0 v) = a7 m c (ix1 v) := by
  rw [blk7, v9_at]

/-- After each point the tables stand and the state is the recurrence's. -/
theorem after_point (hX : Names m c X) (n : ℕ) (hn : n < cfg0.N) :
    Tables m c (outsAt0 m c n hn).2.2.1 (outsAt0 m c n hn).2.2.2.1 (outsAt0 m c n hn).2.2.2.2
      ∧ ∀ (p : Fin 256) (k : Fin 1024), (outsAt0 m c n hn).2.1 (ix2 p k) = hsK m c X p (8 * n + 8) k := by
  have hN : n < 8 := lt_of_lt_of_eq hn (show cfg0.N = 8 from N_0)
  induction n with
  | zero =>
    have T := tables_first m c ⟨0, hn⟩ rfl
    refine ⟨?_, fun p k => ?_⟩
    · rw [table_first m c ⟨0, hn⟩ rfl, hidden_first m c ⟨0, hn⟩ rfl, head_first m c ⟨0, hn⟩ rfl]; exact T
    · rw [state_first m c ⟨0, hn⟩ rfl]
      exact chain_at m c X hX _ _ _ T _ _ _ 0 (by omega) (rows_at m c ⟨0, hn⟩ (by dsimp only; omega)) (bias_at m c ⟨0, hn⟩)
        (fun p k => pay5_at p k) 8 le_rfl p k
  | succ n ih =>
    obtain ⟨T, hh⟩ := ih (by omega) (by omega)
    have h0 : ¬ (⟨n + 1, hn⟩ : Fin cfg0.N).val % 8 = 0 := by dsimp only; omega
    have ek := kept_next m c ⟨n + 1, hn⟩ h0
    refine ⟨?_, fun p k => ?_⟩
    · rw [ek]; exact T
    · rw [state_next m c ⟨n + 1, hn⟩ h0]
      exact chain_at m c X hX _ _ _ T _ _ _ (8 * n + 8) (by omega) (rows_at m c ⟨n + 1, hn⟩ (by dsimp only; omega))
        (bias_at m c ⟨n + 1, hn⟩) hh 8 le_rfl p k

/-- The logits each point leaves in its block. -/
theorem block_at (hX : Names m c X) (t : Fin cfg0.N) (p : Fin 256) (u : Fin 8) (v : Fin 256) :
    (outsAt0 m c t.val t.isLt).1 (ix3 p u v)
      = ∑ k, hsK m c X p (8 * t.val + u.val + 1) k * a6 m c (ix2 v k) + a7 m c (ix1 v) := by
  have hN : t.val < 8 := lt_of_lt_of_eq t.isLt (show cfg0.N = 8 from N_0)
  by_cases h0 : t.val % 8 = 0
  · have ht : t.val = 0 := by omega
    rw [logits_first m c t h0]
    exact logits_point m c X hX _ _ _ (tables_first m c t h0) _ _ _ _ (8 * t.val) (by omega) (rows_at m c t (by omega)) (bias_at m c t)
      (headbias_at m c t) (fun p k => by rw [ht]; exact pay5_at p k) p u v
  · obtain ⟨T, hh⟩ := after_point m c X hX (t.val - 1) (Nat.lt_of_le_of_lt (Nat.sub_le _ _) t.isLt)
    rw [logits_next m c t h0]
    refine logits_point m c X hX _ _ _ T _ _ _ _ (8 * t.val) (by omega) (rows_at m c t (by omega)) (bias_at m c t)
      (headbias_at m c t) (fun p k => ?_) p u v
    rw [hh p k, show 8 * (t.val - 1) + 8 = 8 * t.val by omega]

/-- The logits as one array. -/
def result (m : (ℓ : Loc nD τ sig) → Buf (Elt Ideal) ℓ) (c : Dev nD) (X : Fin 256 → ℕ → Fin 256) : FVec Ideal S256x64x256 .f32 := fun i =>
  ∑ k, hsK m c X (i 0) ((i 1).val + 1) k * a6 m c (ix2 (i 2) k) + a7 m c (ix1 (i 2))

theorem i8 : ∀ t : Fin cfg0.N, win0_8.index t = ![0, t.val, 0] := (by decide +kernel : ∀ t : Fin grid0.N, win0_8.index t = ![0, t.val, 0])

theorem place (t : Fin cfg0.N) (p : Fin 256) (u : Fin 8) (v : Fin 256) (s : Fin 64) (hs : s.val = 8 * t.val + u.val) :
    (win0_8.blk t).view.emb (ix3 p u v) = (ix3 p s v : S256x64x256.Idx) := by
  blk_ext [i8 t]

theorem final (hX : Names m c X) : (dats m 0 c).arrAt 8 cfg0.N = result m c X := by
  refine (dats m 0 c).arrAt_eq_of_covers 8 _ (by decide +kernel) fun t hf y => ?_
  blk_simp
  rw [after0_8]
  have hN : t.val < 8 := lt_of_lt_of_eq t.isLt (show cfg0.N = 8 from N_0)
  have key : ∀ (p : Fin 256) (u : Fin 8) (v : Fin 256),
      (outsAt0 m c t.val t.isLt).1 (ix3 p u v) = result m c X ((win0_8.blk t).view.emb (ix3 p u v)) := by
    intro p u v
    rw [block_at m c X hX t p u v, place t p u v ⟨8 * t.val + u.val, by omega⟩ rfl]
    rfl
  have all : ∀ y : S256x8x256.Idx, (outsAt0 m c t.val t.isLt).1 y = result m c X ((win0_8.blk t).view.emb y) := by
    intro y
    have e : y = ix3 (y 0) (y 1) (y 2) := by
      funext a; fin_cases a <;> rfl
    rw [e]
    exact key (y 0) (y 1) (y 2)
  exact all y

end Cert.KernelIdeal.RefValue

end
-- ==== Proof.RefSteps.lean ====
module

public import proofs.«01_k».proof.Proof.Spec
public import proofs.«01_k».proof.Proof.Gen.ReferenceIdeal.Run
public import Idealize.ShloMosaic.Lib.Pointwise
public import Idealize.ShloMosaic.Lib.Claim

@[expose] public section

set_option maxRecDepth 16384

noncomputable section

/-! The reference's loop body read at an index, from what its carried buffers hold. -/

namespace Cert.ReferenceIdeal.RefValue

open Cert.ReferenceIdeal Cert.ReferenceIdeal.Gen Cert.ReferenceIdeal.Value Cert.Gru Idealize.ShloMosaic Idealize.ShloMosaic.TcCoe

/-- The logistic function written out with an exponential is the logistic function. -/
theorem logistic_out (x : EReal) : Ideal.div 1 (1 + Ideal.exp (-x)) = Ideal.logistic x := by
  induction x with
  | bot =>
    have e : (1 : EReal) + ⊤ = ⊤ := EReal.coe_add_top 1
    simp [Ideal.div, e]
  | coe r =>
    rw [Ideal.logistic_coe, ← EReal.coe_neg, Ideal.exp_coe, ← EReal.coe_one, ← EReal.coe_add,
      Ideal.div_coe (by positivity), ← EReal.coe_mul, one_mul, one_div]
  | top =>
    rw [EReal.neg_top, Ideal.exp_bot, add_zero, Ideal.logistic_top, ← EReal.coe_one, Ideal.div_coe one_ne_zero]
    simp

/-- A small number's word reads back as that number. -/
theorem small_toInt {n : ℕ} (h : n < 256) : (BitVec.ofNat 32 n).toInt = (n : ℤ) := by
  rw [BitVec.toInt_eq_toNat_of_lt (by rw [BitVec.toNat_ofNat]; omega), BitVec.toNat_ofNat]
  congr 1
  omega

/-- Cutting row `s` out of the texts' embeddings. -/
theorem cut_at (xs : FVec Ideal S64x256x512 .f32) (start : Fin 3 → Int) (s : Fin 64) (h0 : start 0 = (s.val : ℤ)) (h1 : start 1 = 0) (h2 : start 2 = 0)
    (p : Fin 256) (e : Fin 512) :
    (shapeCast S256x512 (Host.dynamicSlice S1x256x512 xs start sliceFits_S64x256x512_S1x256x512) shapeCasts_S1x256x512_S256x512
      : FVec Ideal S256x512 .f32) (ix2 p e) = xs (ix3 s p e) := by
  have e0 : Host.clampedStart S64x256x512 S1x256x512 rfl start 0 = s.val := Host.clampedStart_of_le _ _ _ s.val h0 (by change s.val + 1 ≤ 64; omega)
  have e1 : Host.clampedStart S64x256x512 S1x256x512 rfl start 1 = 0 := Host.clampedStart_of_le _ _ _ 0 h1 (by decide)
  have e2 : Host.clampedStart S64x256x512 S1x256x512 rfl start 2 = 0 := Host.clampedStart_of_le _ _ _ 0 h2 (by decide)
  pointwise
  simp only [e0, e1, e2, Nat.zero_add]

/-- Laying a row over row `s` of the outputs. -/
theorem put_at (ys : FVec Ideal S64x256x1024 .f32) (u : FVec Ideal S256x1024 .f32) (start : Fin 3 → Int) (s : Fin 64) (h0 : start 0 = (s.val : ℤ))
    (h1 : start 1 = 0) (h2 : start 2 = 0) (q : Fin 64) (p : Fin 256) (k : Fin 1024) :
    (Host.dynamicUpdateSlice ys (broadcastInDim S1x256x1024 ![1, 2] bcast_S256x1024_S1x256x1024_1_2 u) start updateFits_S64x256x1024_S1x256x1024
      : FVec Ideal S64x256x1024 .f32) (ix3 q p k) = if q = s then u (ix2 p k) else ys (ix3 q p k) := by
  have e0 : Host.clampedStart S64x256x1024 S1x256x1024 rfl start 0 = s.val := Host.clampedStart_of_le _ _ _ s.val h0 (by change s.val + 1 ≤ 64; omega)
  have e1 : Host.clampedStart S64x256x1024 S1x256x1024 rfl start 1 = 0 := Host.clampedStart_of_le _ _ _ 0 h1 (by decide)
  have e2 : Host.clampedStart S64x256x1024 S1x256x1024 rfl start 2 = 0 := Host.clampedStart_of_le _ _ _ 0 h2 (by decide)
  pointwise
  simp only [e0, e1, e2, Nat.zero_add, Nat.sub_zero]
  by_cases h : q = s
  · subst h
    rw [dif_pos ⟨⟨le_refl _, by omega⟩, ⟨by omega, p.isLt⟩, by omega, k.isLt⟩, if_pos rfl]
  · rw [dif_neg (fun h' => h (Fin.ext (by omega))), if_neg h]

variable (V : Valuation τ sig (Elt Ideal))

abbrev c0 : FVec Ideal S64x256x512 .f32 := V (Proc.devRef .tc main_v4_0)
abbrev c1 : FVec Ideal S3072x512 .f32 := V (Proc.devRef .tc main_v4_1)
abbrev c2 : FVec Ideal S3072 .f32 := V (Proc.devRef .tc main_v4_2)
abbrev c3 : FVec Ideal S3072x1024 .f32 := V (Proc.devRef .tc main_v4_3)
abbrev c4 : FVec Ideal S3072 .f32 := V (Proc.devRef .tc main_v4_4)
abbrev c5 : IVec S_ 32 := V (Proc.devRef .tc main_v4_5)
abbrev c6 : FVec Ideal S256x1024 .f32 := V (Proc.devRef .tc main_v4_6)
abbrev c7 : FVec Ideal S64x256x1024 .f32 := V (Proc.devRef .tc main_v4_7)

abbrev gx : FVec Ideal S256x3072 .f32 := res_main_while0b_v18 V
abbrev gs : FVec Ideal S256x3072 .f32 := res_main_while0b_v23 V
abbrev uz : FVec Ideal S256x1024 .f32 := res_main_while0b_v43 V
abbrev hn : FVec Ideal S256x1024 .f32 := res_main_while0b_v51 V

/-- The input's share of the gates. -/
theorem v18_at (s : Fin 64) (hs : c5 V = fun _ => BitVec.ofNat 32 s.val) (p : Fin 256) (j : Fin 3072) :
    gx V (ix2 p j)
      = ∑ e, c0 V (ix3 s p e) * c1 V (ix2 j e) + c2 V (ix1 j) := by
  have e (e : Fin 512) := cut_at (c0 V) (fun k => ((![c5 V, constantI S_ 32 0#32, constantI S_ 32 0#32] : Fin 3 → IVec S_ 32) k (Shape.Idx.first h_S_)).toInt) s
    (by change (c5 V _).toInt = _; rw [hs]; exact small_toInt (by omega)) rfl rfl p e
  unfold gx res_main_while0b_v18
  generalize Host.dynamicSlice S1x256x512 _ _ _ = x at e ⊢
  revert e
  pointwise
  intro e
  simp only [e]

/-- The hidden state's share of the gates. -/
theorem v23_at (p : Fin 256) (j : Fin 3072) :
    gs V (ix2 p j) = ∑ k, c6 V (ix2 p k) * c3 V (ix2 j k) + c4 V (ix1 j) := by
  unfold gs res_main_while0b_v23
  pointwise

/-- The update gate. -/
theorem v43_at (p : Fin 256) (k : Fin 1024) :
    uz V (ix2 p k)
      = Ideal.logistic (gx V (ix2 p (jz k)) + gs V (ix2 p (jz k))) := by
  rw [← logistic_out]
  unfold uz res_main_while0b_v43
  pointwise
  rfl

/-- The new hidden state. -/
theorem v51_at (p : Fin 256) (k : Fin 1024) :
    hn V (ix2 p k)
      = cell (fun j => gx V (ix2 p j)) (fun j => gs V (ix2 p j))
          (fun k => c6 V (ix2 p k)) k := by
  simp only [cell]
  rw [← v43_at, ← logistic_out]
  unfold hn res_main_while0b_v51
  pointwise
  rfl

/-- The outputs after a step: this step's row is the new state, every other row stays. -/
theorem ys_at (s : Fin 64) (hs : c5 V = fun _ => BitVec.ofNat 32 s.val) (q : Fin 64) (p : Fin 256) (k : Fin 1024) :
    (step_main_v4_7 V : FVec Ideal S64x256x1024 .f32) (ix3 q p k) = if q = s then hn V (ix2 p k) else c7 V (ix3 q p k) := by
  exact put_at (c7 V) (hn V) _ s (by change (c5 V _).toInt = _; rw [hs]; exact small_toInt (by omega)) rfl rfl q p k

/-- The counter after a step. -/
theorem count_at (n : ℕ) (hs : c5 V = fun _ => BitVec.ofNat 32 n) : (step_main_v4_5 V : IVec S_ 32) = fun _ => BitVec.ofNat 32 (n + 1) := by
  unfold step_main_v4_5
  change addi (c5 V) (constantI S_ 32 1#32) = _
  rw [hs]
  funext i
  exact (BitVec.ofNat_add n 1).symm

end Cert.ReferenceIdeal.RefValue
-- ==== Proof.RefEntry.lean ====
module

public import proofs.«01_k».proof.Proof.RefSteps
public import Idealize.ShloMosaic.Lib.ReduceAll

@[expose] public section

set_option maxRecDepth 65536

noncomputable section

/-! What the loop's carried buffers hold at its entry. -/

namespace Cert.ReferenceIdeal.RefValue

open Cert.ReferenceIdeal Cert.ReferenceIdeal.Gen Cert.ReferenceIdeal.Value Cert.Gru Idealize.ShloMosaic Idealize.ShloMosaic.TcCoe
open Idealize.ShloMosaic.StableHlo Idealize.ShloMosaic.Tactic

variable (m : (ℓ : Loc nD τ sig) → Buf (Elt Ideal) ℓ)

abbrev b0 (c : Dev nD) : IVec S256x64 32 := m ((c : Thread nD τ).loc main_arg0)
abbrev b1 (c : Dev nD) : FVec Ideal S256x512 .f32 := m ((c : Thread nD τ).loc main_arg1)
abbrev b2 (c : Dev nD) : FVec Ideal S3072x512 .f32 := m ((c : Thread nD τ).loc main_arg2)
abbrev b3 (c : Dev nD) : FVec Ideal S3072x1024 .f32 := m ((c : Thread nD τ).loc main_arg3)
abbrev b4 (c : Dev nD) : FVec Ideal S3072 .f32 := m ((c : Thread nD τ).loc main_arg4)
abbrev b5 (c : Dev nD) : FVec Ideal S3072 .f32 := m ((c : Thread nD τ).loc main_arg5)
abbrev b6 (c : Dev nD) : FVec Ideal S256x1024 .f32 := m ((c : Thread nD τ).loc main_arg6)
abbrev b7 (c : Dev nD) : FVec Ideal S256 .f32 := m ((c : Thread nD τ).loc main_arg7)

abbrev entry (c : Dev nD) : Valuation τ sig (Elt Ideal) := entryContents preI m c

theorem entry1 (c : Dev nD) : c1 (entry m c) = b2 m c := by
  simp only [c1, entry, entryContents, afterL_cons, afterL_nil]
  after_reads_simp <;> rfl

theorem entry2 (c : Dev nD) : c2 (entry m c) = b4 m c := by
  simp only [c2, entry, entryContents, afterL_cons, afterL_nil]
  after_reads_simp <;> rfl

theorem entry3 (c : Dev nD) : c3 (entry m c) = b3 m c := by
  simp only [c3, entry, entryContents, afterL_cons, afterL_nil]
  after_reads_simp <;> rfl

theorem entry4 (c : Dev nD) : c4 (entry m c) = b5 m c := by
  simp only [c4, entry, entryContents, afterL_cons, afterL_nil]
  after_reads_simp <;> rfl

theorem entry5 (c : Dev nD) : c5 (entry m c) = fun _ => BitVec.ofNat 32 0 := by
  simp only [c5, entry, entryContents, afterL_cons, afterL_nil]
  after_reads_simp <;> rfl

theorem entry6 (c : Dev nD) : c6 (entry m c) = broadcastInDim S256x1024 ![] bcast_S_S256x1024 (constant S_ .f32 0x00000000#32) := by
  simp only [c6, entry, entryContents, afterL_cons, afterL_nil]
  after_reads_simp <;> rfl

/-- The characters as the lookup takes them: a negative one counts from the table's end. -/
def words (x : IVec S256x64 32) : IVec S256x64x1 32 :=
  broadcastInDim S256x64x1 ![0, 1] bcast_S256x64_S256x64x1_0_1
    (select (cmpi .slt x (broadcastInDim S256x64 ![] bcast_S_S256x64 (constantI S_ 32 0#32)))
      (addi x (broadcastInDim S256x64 ![] bcast_S_S256x64 (constantI S_ 32 256#32))) x)

/-- Which of them name a row of the table. -/
def named (w : IVec S256x64x1 32) : IVec S256x64x1 1 :=
  andi (cmpi .sge w (broadcastInDim S256x64x1 ![] bcast_S_S256x64x1 (constantI S_ 32 0#32)))
    (cmpi .sle w (broadcastInDim S256x64x1 ![0, 1, 2] bcast_S1x1x1_S256x64x1_0_1_2 (broadcastInDim S1x1x1 ![2] bcast_S1_S1x1x1_2 (constantI S1 32 255#32))))

/-- The lookup's result: the named row, or not-a-number. -/
def looked (E : FVec Ideal S256x512 .f32) (w : IVec S256x64x1 32) : FVec Ideal S256x64x512 .f32 :=
  select (broadcastInDim S256x64x512 ![0, 1] bcast_S256x64_S256x64x512_0_1
      (Host.reduce IntOp.andi (named w) (constantI S_ 1 1#1) reducesTo_S256x64x1_S256x64_d2 h_S_))
    (Host.gather gather_S256x512_S256x64x1_S256x64x512_2_0_n_n_0_2_1512 E w)
    (broadcastInDim S256x64x512 ![] bcast_S_S256x64x512 (constant S_ .f32 0x7FC00000#32))

theorem entry0 (c : Dev nD) :
    c0 (entry m c) = transpose S64x256x512 [1, 0, 2] (looked (b1 m c) (words (b0 m c))) transposes_S256x64x512_S64x256x512_1_0_2 := by
  simp only [c0, entry, entryContents, afterL_cons, afterL_nil]
  after_reads_simp
  rfl

theorem word_pos : ∀ v : Fin 256, IntOp.cmpi .slt (BitVec.ofNat 32 v.val) (0#32) = 0#1 := by decide +kernel

theorem word_in : ∀ v : Fin 256,
    IntOp.andi (IntOp.cmpi .sge (BitVec.ofNat 32 v.val) (0#32)) (IntOp.cmpi .sle (BitVec.ofNat 32 v.val) (255#32)) = 1#1 := by
  decide +kernel

theorem words_at (x : IVec S256x64 32) (p : Fin 256) (s : Fin 64) (v : Fin 256) (hx : x (ix2 p s) = BitVec.ofNat 32 v.val) :
    words x (ix3 p s 0) = BitVec.ofNat 32 v.val := by
  unfold words
  pointwise
  rw [hx, word_pos]
  rfl

theorem named_at (w : IVec S256x64x1 32) (i : S256x64x1.Idx) (v : Fin 256) (hw : w i = BitVec.ofNat 32 v.val) : named w i = 1#1 := by
  change IntOp.andi (IntOp.cmpi .sge (w i) (0#32)) (IntOp.cmpi .sle (w i) (255#32)) = 1#1
  rw [hw]
  exact word_in v

/-- The lookup in the table, at a word that names row `v`. -/
theorem gather_at (E : FVec Ideal S256x512 .f32) (w : IVec S256x64x1 32) (p : Fin 256) (s : Fin 64) (e : Fin 512) (v : Fin 256)
    (hw : w (ix3 p s 0) = BitVec.ofNat 32 v.val) :
    Host.gather gather_S256x512_S256x64x1_S256x64x512_2_0_n_n_0_2_1512 E w (ix3 p s e) = E (ix2 v e) := by
  unfold Host.gather
  generalize hd : gather_S256x512_S256x64x1_S256x64x512_2_0_n_n_0_2_1512 = d
  have hcol : d.collapsedSliceDims = [0] := by rw [← hd]; rfl
  have hbat : d.operandBatchingDims = [] := by rw [← hd]; rfl
  have hmap : d.startIndexMap = [0] := by rw [← hd]; rfl
  have hbatch : ∀ a', a' ∉ d.operandBatchingDims := fun a' => by rw [hbat]; exact List.not_mem_nil
  refine congrArg E (funext fun a => Fin.ext ?_)
  match a with
  | ⟨0, _⟩ =>
    have hk : (0 : Fin 2) ∉ d.sKept := fun h => ((d.mem_sKept 0).1 h).1 (by rw [hcol]; exact List.mem_singleton.2 rfl)
    have hm : (0 : Fin 2) ∈ d.startIndexMap := by rw [hmap]; exact List.mem_singleton.2 rfl
    change d.start (ix3 p s e) w 0 + d.batchCoord (ix3 p s e) 0 + d.offCoord (ix3 p s e) 0 = v.val
    rw [d.batchCoord_eq_zero _ _ (hbatch 0), d.offCoord_eq_zero _ _ hk]
    unfold GatherDims.start
    rw [dif_pos hm]
    have hi : d.siIdx (ix3 p s e) ⟨d.startIndexMap.idxOf 0, List.idxOf_lt_length_iff.2 hm⟩ = ix3 p s 0 := by
      subst hd
      funext b
      match b with
      | ⟨0, _⟩ => rfl
      | ⟨1, _⟩ => rfl
      | ⟨2, _⟩ => rfl
    change min _ _ + 0 + 0 = v.val
    rw [hi, hw, small_toInt v.isLt]
    subst hd
    change min v.val 255 + 0 + 0 = v.val
    omega
  | ⟨1, _⟩ =>
    have hm : (1 : Fin 2) ∉ d.startIndexMap := by rw [hmap]; decide
    change d.start (ix3 p s e) w 1 + d.batchCoord (ix3 p s e) 1 + d.offCoord (ix3 p s e) 1 = e.val
    rw [d.batchCoord_eq_zero _ _ (hbatch 1)]
    unfold GatherDims.start
    rw [dif_neg hm]
    subst hd
    change 0 + 0 + _ = _
    rw [Nat.zero_add]
    rfl

/-- The embeddings the loop reads: character `s` of text `p`. -/
theorem entry0_at (c : Dev nD) (p : Fin 256) (s : Fin 64) (e : Fin 512) (v : Fin 256) (hx : b0 m c (ix2 p s) = BitVec.ofNat 32 v.val)
    (hall : ∀ i, ∃ v : Fin 256, b0 m c i = BitVec.ofNat 32 v.val) : c0 (entry m c) (ix3 s p e) = b1 m c (ix2 v e) := by
  have hn : ∀ i, named (words (b0 m c)) i = 1#1 := by
    intro i
    have hi : i = ix3 (i 0) (i 1) 0 := by
      funext a
      match a with
      | ⟨0, _⟩ => rfl
      | ⟨1, _⟩ => rfl
      | ⟨2, h⟩ => exact Subsingleton.elim (α := Fin 1) _ _
    obtain ⟨u, hu⟩ := hall (ix2 (i 0) (i 1))
    exact named_at _ i u (by rw [hi]; exact words_at _ _ _ u hu)
  have ha : ∀ j, Host.reduce IntOp.andi (named (words (b0 m c))) (constantI S_ 1 1#1) reducesTo_S256x64x1_S256x64_d2 h_S_ j = 1#1 :=
    fun j => Host.reduce_andi_one _ _ _ _ j rfl hn
  have hg := gather_at (b1 m c) (words (b0 m c)) p s e v (words_at _ _ _ _ hx)
  rw [entry0]
  unfold looked
  generalize Host.gather gather_S256x512_S256x64x1_S256x64x512_2_0_n_n_0_2_1512 (b1 m c) (words (b0 m c)) = g at hg ⊢
  generalize Host.reduce IntOp.andi (named (words (b0 m c))) (constantI S_ 1 1#1) reducesTo_S256x64x1_S256x64_d2 h_S_ = r at ha ⊢
  pointwise
  rw [ha, ← hg]
  rfl

end Cert.ReferenceIdeal.RefValue
-- ==== Proof.RefFinal.lean ====
module

public import proofs.«01_k».proof.Proof.RefEntry

@[expose] public section

set_option maxRecDepth 16384

noncomputable section

/-! The reference's loop runs the recurrence, and its result is the scores of the states. -/

namespace Cert.ReferenceIdeal.RefValue

open Cert.ReferenceIdeal Cert.ReferenceIdeal.Gen Cert.ReferenceIdeal.Value Cert.Gru Idealize.ShloMosaic Idealize.ShloMosaic.TcCoe
open Idealize.ShloMosaic.StableHlo

variable (m : (ℓ : Loc nD τ sig) → Buf (Elt Ideal) ℓ)

/-- `X p s` is character `s` of text `p`. -/
def Names (c : Dev nD) (X : Fin 256 → ℕ → Fin 256) : Prop :=
  ∀ (p : Fin 256) (s : Fin 64), b0 m c (ix2 p s) = BitVec.ofNat 32 (X p s.val).val

/-- The hidden states of text `p`. -/
def hsR (c : Dev nD) (X : Fin 256 → ℕ → Fin 256) (p : Fin 256) : ℕ → Fin 1024 → EReal :=
  hs (fun v e => b1 m c (ix2 v e)) (fun j e => b2 m c (ix2 j e)) (fun j k => b3 m c (ix2 j k)) (fun j => b4 m c (ix1 j)) (fun j => b5 m c (ix1 j)) (X p)

/-- The carried buffers after `n` steps. -/
abbrev trip (c : Dev nD) (n : ℕ) : Valuation τ sig (Elt Ideal) := STEP^[n] (entry m c)

theorem trip_succ (c : Dev nD) (n : ℕ) : trip m c (n + 1) = STEP (trip m c n) := Function.iterate_succ_apply' _ _ _

theorem trip0 (c : Dev nD) (n : ℕ) : c0 (trip m c n) = c0 (entry m c) := by
  induction n with
  | zero => rfl
  | succ n ih => rw [trip_succ]; exact (STEP_main_v4_0 _).trans ih

theorem trip1 (c : Dev nD) (n : ℕ) : c1 (trip m c n) = b2 m c := by
  induction n with
  | zero => exact entry1 m c
  | succ n ih => rw [trip_succ]; exact (STEP_main_v4_1 _).trans ih

theorem trip2 (c : Dev nD) (n : ℕ) : c2 (trip m c n) = b4 m c := by
  induction n with
  | zero => exact entry2 m c
  | succ n ih => rw [trip_succ]; exact (STEP_main_v4_2 _).trans ih

theorem trip3 (c : Dev nD) (n : ℕ) : c3 (trip m c n) = b3 m c := by
  induction n with
  | zero => exact entry3 m c
  | succ n ih => rw [trip_succ]; exact (STEP_main_v4_3 _).trans ih

theorem trip4 (c : Dev nD) (n : ℕ) : c4 (trip m c n) = b5 m c := by
  induction n with
  | zero => exact entry4 m c
  | succ n ih => rw [trip_succ]; exact (STEP_main_v4_4 _).trans ih

theorem trip5 (c : Dev nD) (n : ℕ) : c5 (trip m c n) = fun _ => BitVec.ofNat 32 n := by
  induction n with
  | zero => exact entry5 m c
  | succ n ih => rw [trip_succ]; exact (STEP_main_v4_5 _).trans (count_at _ n ih)

variable {m} {c : Dev nD} {X : Fin 256 → ℕ → Fin 256}

/-- Every word of the texts names a row of the table. -/
theorem names_all (hX : Names m c X) (i : S256x64.Idx) : ∃ v : Fin 256, b0 m c i = BitVec.ofNat 32 v.val := by
  have hi : i = ix2 (i 0) (i 1) := by
    funext a
    match a with
    | ⟨0, _⟩ => rfl
    | ⟨1, _⟩ => rfl
  exact ⟨X (i 0) (i 1).val, by rw [hi]; exact hX (i 0) (i 1)⟩

/-- One step computes the next hidden state. -/
theorem step_at (hX : Names m c X) (s : Fin 64) (p : Fin 256) (ih : ∀ k, c6 (trip m c s.val) (ix2 p k) = hsR m c X p s.val k) (k : Fin 1024) :
    hn (trip m c s.val) (ix2 p k) = hsR m c X p (s.val + 1) k := by
  have hx : (fun j => gx (trip m c s.val) (ix2 p j))
      = gi (fun v e => b1 m c (ix2 v e)) (fun j e => b2 m c (ix2 j e)) (fun j => b4 m c (ix1 j)) (X p s.val) := by
    funext j
    rw [v18_at _ s (trip5 m c s.val), trip0, trip1, trip2]
    unfold gi
    exact congrArg₂ _ (Finset.sum_congr rfl fun e _ => congrArg₂ _ (entry0_at m c p s e _ (hX p s) (names_all hX)) rfl) rfl
  have hh : (fun j => gs (trip m c s.val) (ix2 p j)) = gh (fun j k => b3 m c (ix2 j k)) (fun j => b5 m c (ix1 j)) (hsR m c X p s.val) := by
    funext j
    rw [v23_at, trip3, trip4]
    unfold gh
    exact congrArg₂ _ (Finset.sum_congr rfl fun k _ => congrArg₂ _ (ih k) rfl) rfl
  rw [v51_at, hx, hh, funext ih]
  rfl

theorem trip6 (hX : Names m c X) (n : ℕ) (hn : n ≤ 64) (p : Fin 256) (k : Fin 1024) : c6 (trip m c n) (ix2 p k) = hsR m c X p n k := by
  induction n generalizing k with
  | zero =>
    rw [show trip m c 0 = entry m c from rfl, entry6]
    pointwise
    rfl
  | succ n ih =>
    rw [trip_succ]
    exact (congrFun (STEP_main_v4_6 _) _).trans (step_at hX ⟨n, by omega⟩ p (fun k => ih (by omega) k) k)

theorem trip7 (hX : Names m c X) (n : ℕ) (hn : n ≤ 64) (q : Fin 64) (hq : q.val < n) (p : Fin 256) (k : Fin 1024) :
    c7 (trip m c n) (ix3 q p k) = hsR m c X p (q.val + 1) k := by
  induction n with
  | zero => omega
  | succ n ih =>
    rw [trip_succ]
    refine (congrFun (STEP_main_v4_7 _) _).trans ((ys_at _ ⟨n, by omega⟩ (trip5 m c n) q p k).trans ?_)
    by_cases h : q = ⟨n, by omega⟩
    · rw [if_pos h, h]
      exact step_at hX ⟨n, by omega⟩ p (fun k => trip6 hX n (by omega) p k) k
    · rw [if_neg h]
      exact ih (by omega) (by have : q.val ≠ n := fun e => h (Fin.ext e); omega)

/-- The result at text `p`, character `s` and score `v`, from the outputs. -/
theorem out_at (V : Valuation τ sig (Elt Ideal)) (p : Fin 256) (s : Fin 64) (v : Fin 256) :
    (out_main_v12 V : FVec Ideal S256x64x256 .f32) (ix3 p s v)
      = ∑ k, c7 V (ix3 s p k) * (V (Proc.devRef .tc main_arg6) : FVec Ideal S256x1024 .f32) (ix2 v k)
        + (V (Proc.devRef .tc main_arg7) : FVec Ideal S256 .f32) (ix1 v) := by
  unfold out_main_v12
  pointwise

/-- The scores of the states, as the whole result. -/
def result (m : (ℓ : Loc nD τ sig) → Buf (Elt Ideal) ℓ) (c : Dev nD) (X : Fin 256 → ℕ → Fin 256) : FVec Ideal S256x64x256 .f32 := fun i =>
  ∑ k, hsR m c X (i 0) ((i 1).val + 1) k * b6 m c (ix2 (i 2) k) + b7 m c (ix1 (i 2))

theorem final_at (hX : Names m c X) (p : Fin 256) (s : Fin 64) (v : Fin 256) :
    (out_main_v12 (trip m c 64) : FVec Ideal S256x64x256 .f32) (ix3 p s v)
      = ∑ k, hsR m c X p (s.val + 1) k * b6 m c (ix2 v k) + b7 m c (ix1 v) := by
  rw [out_at, show trip m c 64 (Proc.devRef .tc main_arg6) = b6 m c from iter_main_arg6 m c 64,
    show trip m c 64 (Proc.devRef .tc main_arg7) = b7 m c from iter_main_arg7 m c 64]
  exact congrArg₂ _ (Finset.sum_congr rfl fun k _ => congrArg₂ _ (trip7 hX 64 le_rfl s s.isLt p k) rfl) rfl

/-- The result after the loop is the scores of the states. -/
theorem final (hX : Names m c X) : out_main_v12 (STEP^[64] (entryContents preI m c)) = result m c X := by
  funext i
  have hi : i = ix3 (i 0) (i 1) (i 2) := by
    funext a
    match a with
    | ⟨0, _⟩ => rfl
    | ⟨1, _⟩ => rfl
    | ⟨2, _⟩ => rfl
  rw [hi]
  exact final_at hX (i 0) (i 1) (i 2)

end Cert.ReferenceIdeal.RefValue
-- ==== Proof.Texts.lean ====
module

public import proofs.«01_k».proof.Defs
public import proofs.«01_k».proof.Proof.KernelFinal
public import proofs.«01_k».proof.Proof.RefFinal
public import proofs.«01_k».proof.Proof.Gen.Pre_in_vocab

@[expose] public section

set_option maxRecDepth 16384

noncomputable section

/-! The texts as character numbers, and the two programs' results compared. -/

namespace Cert.Proof

open Idealize.ShloMosaic Idealize.ShloMosaic.TcCoe

/-- A word at least 0 and below 256 is a small number. -/
theorem small_of_bits (x : BitVec 32) (h : IntOp.andi (IntOp.cmpi .sge x (0#32)) (IntOp.cmpi .slt x (256#32)) = 1#1) : x.toNat < 256 := by
  have bit : ∀ b d : Bool, BitVec.ofBool b &&& BitVec.ofBool d = 1#1 → b = true ∧ d = true := by decide
  obtain ⟨h1, h2⟩ := bit _ _ h
  rw [BitVec.sle_iff_toInt_le] at h1
  rw [BitVec.slt_iff_toInt_lt] at h2
  have e0 : (0#32).toInt = 0 := by decide
  have e1 : (256#32).toInt = 256 := by decide
  rw [e0] at h1
  rw [e1] at h2
  rw [BitVec.toInt_eq_toNat_cond] at h1 h2
  have := x.isLt
  split at h1 <;> omega

/-- The texts' characters as numbers. -/
def texts (x : IVec Cert.KernelIdeal.S256x64 32) (p : Fin 256) (n : ℕ) : Fin 256 :=
  if h : n < 64 then Fin.ofNat 256 (x (ix2 p ⟨n, h⟩)).toNat else 0

/-- Under the precondition the kernel's texts are character numbers. -/
theorem names (m : (ℓ : Loc Cert.KernelIdeal.nD Cert.KernelIdeal.τ Cert.KernelIdeal.sig) → Buf (Elt Ideal) ℓ) (hpre : Pre_KernelIdeal_in_vocab (hPre_in_vocab := Cert.Pre_in_vocab.Gen.facts) m)
    (c : Dev Cert.KernelIdeal.nD) : Cert.KernelIdeal.RefValue.Names m c (texts (Cert.KernelIdeal.RefValue.a0 m c)) := by
  intro p s
  have h := small_of_bits (Cert.KernelIdeal.RefValue.a0 m c (ix2 p s)) (congrFun (hpre c) (ix2 p s))
  unfold texts
  rw [dif_pos s.isLt]
  change _ = BitVec.ofNat 32 ((Cert.KernelIdeal.RefValue.a0 m c (ix2 p s)).toNat % 256)
  rw [Nat.mod_eq_of_lt h, BitVec.ofNat_toNat, BitVec.setWidth_eq]

/-- On memories that agree on the arguments, with the texts character numbers, the reference's result is the kernel's. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (X : Fin 256 → ℕ → Fin 256) (hX : Cert.KernelIdeal.RefValue.Names m c X)
    (h0 : Cert.ReferenceIdeal.RefValue.b0 m' c = Cert.KernelIdeal.RefValue.a0 m c)
    (h1 : Cert.ReferenceIdeal.RefValue.b1 m' c = Cert.KernelIdeal.RefValue.a1 m c)
    (h2 : Cert.ReferenceIdeal.RefValue.b2 m' c = Cert.KernelIdeal.RefValue.a2 m c)
    (h3 : Cert.ReferenceIdeal.RefValue.b3 m' c = Cert.KernelIdeal.RefValue.a3 m c)
    (h4 : Cert.ReferenceIdeal.RefValue.b4 m' c = Cert.KernelIdeal.RefValue.a4 m c)
    (h5 : Cert.ReferenceIdeal.RefValue.b5 m' c = Cert.KernelIdeal.RefValue.a5 m c)
    (h6 : Cert.ReferenceIdeal.RefValue.b6 m' c = Cert.KernelIdeal.RefValue.a6 m c)
    (h7 : Cert.ReferenceIdeal.RefValue.b7 m' c = Cert.KernelIdeal.RefValue.a7 m c) :
    Cert.ReferenceIdeal.Value.out_main_v12
        (Cert.ReferenceIdeal.Value.STEP^[64] (StableHlo.entryContents Cert.ReferenceIdeal.Value.preI m' c))
      = (Cert.KernelIdeal.Gen.dats m 0 c).arrAt 8 Cert.KernelIdeal.cfg0.N := by
  rw [Cert.KernelIdeal.RefValue.final m c X hX]
  refine (Cert.ReferenceIdeal.RefValue.final (m := m') (c := c) (X := X) ?_).trans ?_
  · intro p s
    rw [h0]
    exact hX p s
  · funext i
    unfold Cert.ReferenceIdeal.RefValue.result Cert.KernelIdeal.RefValue.result Cert.ReferenceIdeal.RefValue.hsR Cert.KernelIdeal.RefValue.hsK
    rw [h1, h2, h3, h4, h5, h6, h7]

end Cert.Proof
-- ==== Proof.lean ====
module

public import proofs.«01_k».proof.Proof.Texts
public import proofs.«01_k».proof.Proof.Gen.Kernel.Frame
public import Idealize.ShloMosaic.Adequacy
public import Idealize.ShloMosaic.Init
public import Idealize.ShloMosaic.Lib.Quiescent

@[expose] public section

noncomputable section

/-! The claims, from the two programs' runs. -/

namespace Cert.Proof

open Idealize.ShloMosaic Idealize.ShloMosaic.TcCoe Idealize.SL.Sem

/-- The reference ends with its arguments unchanged and no counter raised. -/
theorem reference_ends : quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's. -/
theorem kernel_is_reference :
    algebraic_KernelIdeal_ReferenceIdeal_pre_in_vocab (hKernelIdeal := Cert.KernelIdeal.Gen.facts) (hReferenceIdeal := Cert.ReferenceIdeal.Gen.facts)
      (hPre_in_vocab := Cert.Pre_in_vocab.Gen.facts) := by
  intro m ρ m' ρ' hpre hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4, h5, h6, h7⟩ := hagree c
  exact (h c).1.trans (same m m' c _ (names m hpre c) h0 h1 h2 h3 h4 h5 h6 h7)

theorem claim : Cert.Claim :=
  ⟨Cert.Kernel.Gen.facts, Cert.KernelIdeal.Gen.facts, Cert.ReferenceIdeal.Gen.facts, Cert.Pre_in_vocab.Gen.facts,
    fun m ρ _ => Cert.Kernel.Gen.frame m ρ, fun m ρ _ => Cert.KernelIdeal.Gen.frame m ρ, fun m ρ _ => Cert.KernelIdeal.Gen.frame m ρ,
    reference_ends, fun m ρ _ => reference_ends m ρ trivial, (trivial : preserves_Kernel_KernelIdeal), kernel_is_reference⟩

end Cert.Proof
